-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨3, ![4, 256, 128]⟩ ⟨3, ![4, 256, 512]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 128]⟩ ⟨2, ![128, 512]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 128]⟩ ⟨2, ![128, 512]⟩ 1 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 256, 128]⟩ ⟨3, ![4, 256, 512]⟩ 2 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S4x256x128 : Shape := ⟨3, ![4, 256, 128]⟩
abbrev S4x128 : Shape := ⟨2, ![4, 128]⟩
abbrev S128x128 : Shape := ⟨2, ![128, 128]⟩
abbrev S_ : Shape := ⟨0, ![]⟩

class Facts : Prop where
  bcast_S_S4x256x128 : S_.BroadcastsInDim S4x256x128 (![] : Fin 0 → Fin S4x256x128.rank)

variable [Facts]

def fn {F : FTy → Type} [FloatOps F] (main_arg0 : FVec F S4x256x128 .f32) (main_arg1 : FVec F S4x128 .f32) (main_arg2 : FVec F S128x128 .f32) (main_arg3 : FVec F S128x128 .f32) : IVec S4x256x128 1 :=
  let main_v0 : FVec F S4x256x128 .f32 := Host.absf main_arg0
  let main_cst : FVec F S_ .f32 := constant S_ .f32 0x7F800000#32
  let main_v1 : FVec F S4x256x128 .f32 := broadcastInDim S4x256x128 ![] bcast_S_S4x256x128 main_cst
  let main_v2 : IVec S4x256x128 1 := cmpf .olt main_v0 main_v1
  main_v2
-- ==== Pre_x_finite_ReferenceIdeal.lean ====
abbrev S4x256x512 : Shape := ⟨3, ![4, 256, 512]⟩
abbrev S4x128 : Shape := ⟨2, ![4, 128]⟩
abbrev S128x512 : Shape := ⟨2, ![128, 512]⟩
abbrev S_ : Shape := ⟨0, ![]⟩

class Facts : Prop where
  bcast_S_S4x256x512 : S_.BroadcastsInDim S4x256x512 (![] : Fin 0 → Fin S4x256x512.rank)

variable [Facts]

def fn {F : FTy → Type} [FloatOps F] (main_arg0 : FVec F S4x256x512 .f32) (main_arg1 : FVec F S4x128 .f32) (main_arg2 : FVec F S128x512 .f32) (main_arg3 : FVec F S128x512 .f32) : IVec S4x256x512 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  main_v2
-- ==== Kernel.lean ====
abbrev S4x256x128 : Shape := ⟨3, ![4, 256, 128]⟩
abbrev S4x128 : Shape := ⟨2, ![4, 128]⟩
abbrev S128x128 : Shape := ⟨2, ![128, 128]⟩
abbrev S2x4x256 : Shape := ⟨3, ![2, 4, 256]⟩
abbrev S3x2x4x256 : Shape := ⟨4, ![3, 2, 4, 256]⟩
abbrev S3 : Shape := ⟨1, ![3]⟩
abbrev S5 : Shape := ⟨1, ![5]⟩
abbrev S1 : Shape := ⟨1, ![1]⟩
abbrev S_ : Shape := ⟨0, ![]⟩
abbrev S4x256 : Shape := ⟨2, ![4, 256]⟩
abbrev S1x4x256 : Shape := ⟨3, ![1, 4, 256]⟩
abbrev S1x2x4x256 : Shape := ⟨4, ![1, 2, 4, 256]⟩
abbrev S4x1x128 : Shape := ⟨3, ![4, 1, 128]⟩
abbrev S1x1x4x256 : Shape := ⟨4, ![1, 1, 4, 256]⟩
abbrev S4x256x1 : Shape := ⟨3, ![4, 256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4x256x128, .f32⟩
  | .hbm, ⟨1, _⟩ => ⟨S4x128, .f32⟩
  | .hbm, ⟨2, _⟩ => ⟨S128x128, .f32⟩
  | .hbm, ⟨3, _⟩ => ⟨S128x128, .f32⟩
  | .hbm, ⟨4, _⟩ => ⟨S4x256x128, .bf16⟩
  | .local _ .vmem, ⟨0, _⟩ => ⟨S4x256x128, .bf16⟩
  | .local _ .vmem, ⟨1, _⟩ => ⟨S4x256x128, .f32⟩
  | .local _ .vmem, ⟨2, _⟩ => ⟨S4x128, .f32⟩
  | .local _ .vmem, ⟨3, _⟩ => ⟨S128x128, .f32⟩
  | .local _ .vmem, ⟨4, _⟩ => ⟨S128x128, .f32⟩
  | .local _ .vmem, ⟨5, _⟩ => ⟨S2x4x256, .f32⟩
  | .local _ .vmem, ⟨6, _⟩ => ⟨S3x2x4x256, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v12 : BitVec 32 := Scalar.addi v2 c1_i32_1
  let c4_i32_2 : BitVec 32 := 4#32
  let c0_i32_3 : BitVec 32 := 0#32
  let v13 : BitVec 1 := Scalar.cmpi .eq c4_i32_2 c0_i32_3
  let c1_i32_4 : BitVec 32 := 1#32
  let v14 : BitVec 32 := Scalar.select v13 c1_i32_4 c4_i32_2
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c1_i32_9 : BitVec 32 := 1#32
  let v23 : BitVec 32 := Scalar.muli v22 c1_i32_9
  let v24 : BitVec 32 := Scalar.addi c0_i32_10 v23
  v24.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_11 : BitVec 32 := 2#32
  let v25 : BitVec 32 := Scalar.addi v2 c2_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_19 : BitVec 32 := 1#32
  let v36 : BitVec 32 := Scalar.muli v35 c1_i32_19
  let v37 : BitVec 32 := Scalar.addi c0_i32_20 v36
  v37.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_21 : BitVec 32 := 3#32
  let v38 : BitVec 32 := Scalar.addi v2 c3_i32_21
  let c4_i32_22 : BitVec 32 := 4#32
  let c0_i32_23 : BitVec 32 := 0#32
  let v39 : BitVec 1 := Scalar.cmpi .eq c4_i32_22 c0_i32_23
  let c1_i32_24 : BitVec 32 := 1#32
  let v40 : BitVec 32 := Scalar.select v39 c1_i32_24 c4_i32_22
  let v41 : BitVec 32 := Scalar.remsi v38 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c1_i32_29 : BitVec 32 := 1#32
  let v49 : BitVec 32 := Scalar.muli v48 c1_i32_29
  let v50 : BitVec 32 := Scalar.addi c0_i32_30 v49
  v50.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_41 : BitVec 32 := 1#32
  let v63 : BitVec 32 := Scalar.addi v2 c1_i32_41
  let c4_i32_42 : BitVec 32 := 4#32
  let c0_i32_43 : BitVec 32 := 0#32
  let v64 : BitVec 1 := Scalar.cmpi .eq c4_i32_42 c0_i32_43
  let c1_i32_44 : BitVec 32 := 1#32
  let v65 : BitVec 32 := Scalar.select v64 c1_i32_44 c4_i32_42
  let v66 : BitVec 32 := Scalar.remsi v63 v65
  let c0_i32_46 : BitVec 32 := 0#32
  let v68 : BitVec 1 := Scalar.cmpi .slt v66 c0_i32_46
  let c0_i32_47 : BitVec 32 := 0#32
  let v69 : BitVec 1 := Scalar.cmpi .slt v65 c0_i32_47
  let v70 : BitVec 1 := Scalar.xori v68 v69
  let c0_i32_45 : BitVec 32 := 0#32
  let v67 : BitVec 1 := Scalar.cmpi .ne v66 c0_i32_45
  let v71 : BitVec 1 := Scalar.andi v70 v67
  let v72 : BitVec 32 := Scalar.addi v66 v65
  let v73 : BitVec 32 := Scalar.select v71 v72 v66
  let c1_i32_51 : BitVec 32 := 1#32
  let v74 : BitVec 32 := Scalar.muli v73 c1_i32_51
  let v75 : BitVec 32 := Scalar.addi c0_i32_52 v74
  v75.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_56 : BitVec 32 := 2#32
  let v82 : BitVec 32 := Scalar.addi v2 c2_i32_56
  let c4_i32_57 : BitVec 32 := 4#32
  let c0_i32_58 : BitVec 32 := 0#32
  let v83 : BitVec 1 := Scalar.cmpi .eq c4_i32_57 c0_i32_58
  let c1_i32_59 : BitVec 32 := 1#32
  let v84 : BitVec 32 := Scalar.select v83 c1_i32_59 c4_i32_57
  let v85 : BitVec 32 := Scalar.remsi v82 v84
  let c0_i32_61 : BitVec 32 := 0#32
  let v87 : BitVec 1 := Scalar.cmpi .slt v85 c0_i32_61
  let c0_i32_62 : BitVec 32 := 0#32
  let v88 : BitVec 1 := Scalar.cmpi .slt v84 c0_i32_62
  let v89 : BitVec 1 := Scalar.xori v87 v88
  let c0_i32_60 : BitVec 32 := 0#32
  let v86 : BitVec 1 := Scalar.cmpi .ne v85 c0_i32_60
  let v90 : BitVec 1 := Scalar.andi v89 v86
  let v91 : BitVec 32 := Scalar.addi v85 v84
  let v92 : BitVec 32 := Scalar.select v90 v91 v85
  let c1_i32_66 : BitVec 32 := 1#32
  let v93 : BitVec 32 := Scalar.muli v92 c1_i32_66
  let v94 : BitVec 32 := Scalar.addi c0_i32_67 v93
  v94.toNat
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v101 : BitVec 32 := Scalar.addi v2 c3_i32_71
  let c4_i32_72 : BitVec 32 := 4#32
  let c0_i32_73 : BitVec 32 := 0#32
  let v102 : BitVec 1 := Scalar.cmpi .eq c4_i32_72 c0_i32_73
  let c1_i32_74 : BitVec 32 := 1#32
  let v103 : BitVec 32 := Scalar.select v102 c1_i32_74 c4_i32_72
  let v104 : BitVec 32 := Scalar.remsi v101 v103
  let c0_i32_76 : BitVec 32 := 0#32
  let v106 : BitVec 1 := Scalar.cmpi .slt v104 c0_i32_76
  let c0_i32_77 : BitVec 32 := 0#32
  let v107 : BitVec 1 := Scalar.cmpi .slt v103 c0_i32_77
  let v108 : BitVec 1 := Scalar.xori v106 v107
  let c0_i32_75 : BitVec 32 := 0#32
  let v105 : BitVec 1 := Scalar.cmpi .ne v104 c0_i32_75
  let v109 : BitVec 1 := Scalar.andi v108 v105
  let v110 : BitVec 32 := Scalar.addi v104 v103
  let v111 : BitVec 32 := Scalar.select v109 v110 v104
  let c1_i32_81 : BitVec 32 := 1#32
  let v112 : BitVec 32 := Scalar.muli v111 c1_i32_81
  let v113 : BitVec 32 := Scalar.addi c0_i32_82 v112
  v113.toNat
abbrev stage0_0 : Fin 1 → Memref sig .tc .vmem S4x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x256x512 : Shape := ⟨3, ![4, 256, 512]⟩
abbrev S4x128 : Shape := ⟨2, ![4, 128]⟩
abbrev S128x512 : Shape := ⟨2, ![128, 512]⟩
abbrev S_ : Shape := ⟨0, ![]⟩
abbrev S4x256 : Shape := ⟨2, ![4, 256]⟩
abbrev S4x256x1 : Shape := ⟨3, ![4, 256, 1]⟩
abbrev S4x512 : Shape := ⟨2, ![4, 512]⟩
abbrev S4x1x512 : Shape := ⟨3, ![4, 1, 512]⟩

abbrev nBuf : Space → Nat
  | .hbm => 54
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x128, .f32⟩
  | .hbm, ⟨2, _⟩ => ⟨S128x512, .f32⟩
  | .hbm, ⟨3, _⟩ => ⟨S128x512, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .i32⟩
  | .hbm, ⟨11, _⟩ => ⟨S_, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S4x256x512, .f32⟩
  | .hbm, ⟨18, _⟩ => ⟨S4x256x512, .f32⟩
  | .hbm, ⟨19, _⟩ => ⟨S4x256x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x256, .f32⟩
  | .hbm, ⟨25, _⟩ => ⟨S4x256x1, .f32⟩
  | .hbm, ⟨26, _⟩ => ⟨S4x256x1, .f32⟩
  | .hbm, ⟨27, _⟩ => ⟨S4x256x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x256x1, .f32⟩
  | .hbm, ⟨33, _⟩ => ⟨S4x256x1, .f32⟩
  | .hbm, ⟨34, _⟩ => ⟨S4x256x512, .f32⟩
  | .hbm, ⟨35, _⟩ => ⟨S4x256x512, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S4x256x1, .f32⟩
  | .hbm, ⟨40, _⟩ => ⟨S4x256x512, .f32⟩
  | .hbm, ⟨41, _⟩ => ⟨S4x256x512, .f32⟩
  | .hbm, ⟨42, _⟩ => ⟨S4x512, .f32⟩
  | .hbm, ⟨43, _⟩ => ⟨S4x512, .f32⟩
  | .hbm, ⟨44, _⟩ => ⟨S4x1x512, .f32⟩
  | .hbm, ⟨45, _⟩ => ⟨S_, .f32⟩
  | .hbm, ⟨46, _⟩ => ⟨S4x1x512, .f32⟩
  | .hbm, ⟨47, _⟩ => ⟨S4x1x512, .f32⟩
  | .hbm, ⟨48, _⟩ => ⟨S4x256x512, .f32⟩
  | .hbm, ⟨49, _⟩ => ⟨S4x256x512, .f32⟩
  | .hbm, ⟨50, _⟩ => ⟨S4x1x512, .f32⟩
  | .hbm, ⟨51, _⟩ => ⟨S4x256x512, .f32⟩
  | .hbm, ⟨52, _⟩ => ⟨S4x256x512, .f32⟩
  | .hbm, ⟨53, _⟩ => ⟨S4x256x512, .bf16⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]
-- ==== Proof.Protocol.lean ====
/-
The protocol of the normalization kernel on four devices, written over any float values.

Each device `c` sums its block of `x` (and of its squares) along the channels, keeps the two rows of sums in its send
buffer and exchanges them with the three other devices:

  * barrier cell of `c` (the runtime's semaphore): waited for 3 by `c`; unit `k` (`k = 0, 1, 2`) is signalled by the device
    `k + 1` places before `c`, which hands over its receive slot `k`;
  * receive cell `j` of `c` (DMA semaphore `4 + j`): waited by `c`; the device `j + 1` places after `c` copies its two rows of
    sums into slot `j`, and the landing hands over the slot holding THAT device's sums;
  * send cell `j` of `c` (DMA semaphore `1 + j`): waited by `c`; the transfer to the device `j + 1` places after `c` returns a
    quarter of the send buffer, holding `c`'s own sums;
  * local cells (DMA semaphores 7 to 10): waited by `c`; the copies of `x`, `t_emb`, `W_scale`, `W_shift` into VMEM hand over
    the VMEM buffer holding the argument and the argument itself;
  * DMA semaphore 11 is never used: a cell of no duty.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.ReshapeSlab
public import Idealize.ShloMosaic.Lib.Ring.WriteBehind
public import Idealize.ShloMosaic.Lib.Tactic

@[expose] public section

noncomputable section

namespace Cert.Norm

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's own rounds beside the exchange's, whose duties are numbered by `Fin 3` -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## The device `n` places after `c` -/

set_option backward.proofsInPublic true in
def sh (c : Dev nD) (n : ℕ) : Dev nD := ⟨(c.val + n) % 4, Nat.mod_lt _ (by decide)⟩

theorem sh_13 (c : Dev nD) : sh (sh c 1) 3 = c := by revert c; decide
theorem sh_22 (c : Dev nD) : sh (sh c 2) 2 = c := by revert c; decide
theorem sh_31 (c : Dev nD) : sh (sh c 3) 1 = c := by revert c; decide

/-- A shift as a permutation of the devices. -/
def rot1 : Dev nD ≃ Dev nD := ⟨fun c => sh c 1, fun c => sh c 3, sh_13, sh_31⟩
def rot2 : Dev nD ≃ Dev nD := ⟨fun c => sh c 2, fun c => sh c 2, sh_22, sh_22⟩
def rot3 : Dev nD ≃ Dev nD := ⟨fun c => sh c 3, fun c => sh c 1, sh_31, sh_13⟩

theorem dev1_eq (c : Dev nD) : (⟨k0_dev1 c, k0_dev1_lt c⟩ : Dev nD) = sh c 1 := by revert c; decide +kernel
theorem dev2_eq (c : Dev nD) : (⟨k0_dev2 c, k0_dev2_lt c⟩ : Dev nD) = sh c 2 := by revert c; decide +kernel
theorem dev3_eq (c : Dev nD) : (⟨k0_dev3 c, k0_dev3_lt c⟩ : Dev nD) = sh c 3 := by revert c; decide +kernel
theorem dev4_eq (c : Dev nD) : (⟨k0_dev4 c, k0_dev4_lt c⟩ : Dev nD) = sh c 1 := by revert c; decide +kernel
theorem dev5_eq (c : Dev nD) : (⟨k0_dev5 c, k0_dev5_lt c⟩ : Dev nD) = sh c 2 := by revert c; decide +kernel
theorem dev6_eq (c : Dev nD) : (⟨k0_dev6 c, k0_dev6_lt c⟩ : Dev nD) = sh c 3 := by revert c; decide +kernel

/-! ## Memrefs and cells -/

abbrev statM : Memref sig .tc .vmem S2x4x256 .f32 := Memref.whole cc0_scratch4
abbrev recvM : Memref sig .tc .vmem S3x2x4x256 .f32 := Memref.whole cc0_scratch5

theorem slot_inb (j : Fin 3) : ∀ a, (![j.val, 0, 0, 0] : Fin 4 → Nat) a + S1x2x4x256.size a ≤ S3x2x4x256.size a := by
  revert j; decide

/-- Slot `j` of the receive buffer. -/
abbrev slotR (j : Fin 3) : Rect S3x2x4x256 := Rect.unit (s := S3x2x4x256) ![j.val, 0, 0, 0] S1x2x4x256.size (slot_inb j)
abbrev slotM (j : Fin 3) : Memref sig .tc .vmem S2x4x256 .f32 :=
  (recvM.slice (slotR j) (fun _ => rfl)).squeeze S2x4x256 squeezes_S1x2x4x256_S2x4x256

/-- The runtime's barrier semaphore of collective id 0. -/
abbrev barS : Sem sig := (SemArray.scalar (sig.barrier 0 rfl) : Sems sig S_).sem

/-- Cell `0` of a device is its barrier, cell `k` its DMA semaphore `k` (DMA semaphore 0 stages the result). -/
def csem (k : Fin 12) : SemLoc sig := if k = 0 then .reg barS else .dma (k : Fin 12)
abbrev kcell (ck : Dev nD × Fin 12) : GSem nD τ sig := ((ck.1 : Thread nD τ), csem ck.2)

theorem csem_zero : csem 0 = .reg barS := rfl
theorem csem_succ (k : Fin 12) (h : k ≠ 0) : csem k = .dma (k : Fin 12) := if_neg h

/-- The credit of one landing: the two rows of sums; the block of `x`; `t_emb`; a block of weights. -/
abbrev N : ℕ := statM.view.dmaCredit
abbrev NX : ℕ := (Memref.whole cc0_scratch0 : Memref sig .tc .vmem S4x256x128 .f32).view.dmaCredit
abbrev NT : ℕ := (Memref.whole cc0_scratch1 : Memref sig .tc .vmem S4x128 .f32).view.dmaCredit
abbrev NW : ℕ := (Memref.whole cc0_scratch2 : Memref sig .tc .vmem S128x128 .f32).view.dmaCredit
theorem N_pos : 0 < N := View.dmaCredit_pos _ (by decide)
theorem NX_pos : 0 < NX := View.dmaCredit_pos _ (by decide)
theorem NT_pos : 0 < NT := View.dmaCredit_pos _ (by decide)
theorem NW_pos : 0 < NW := View.dmaCredit_pos _ (by decide)

/-! ## Contents -/

/-- The arguments of device `c`. -/
def xA (c : Dev nD) : Vec F S4x256x128 .f32 := m ((c : Thread nD τ).loc main_arg0)
def tA (c : Dev nD) : Vec F S4x128 .f32 := m ((c : Thread nD τ).loc main_arg1)
def wsA (c : Dev nD) : Vec F S128x128 .f32 := m ((c : Thread nD τ).loc main_arg2)
def whA (c : Dev nD) : Vec F S128x128 .f32 := m ((c : Thread nD τ).loc main_arg3)

/-- The two rows of sums of a block: along the channels, the elements' (row 0) and their squares' (row 1). -/
def rowsOf (x : Vec F S4x256x128 .f32) : Vec F S2x4x256 .f32 := fun i =>
  if (i 0).val = 0 then k0_pay1 x (ix3 (0 : Fin 1) (i 1) (i 2)) else k0_pay3 (k0_pay2 x) (ix3 (0 : Fin 1) (i 1) (i 2))

def stats (c : Dev nD) : Vec F S2x4x256 .f32 := rowsOf (xA m c)

/-- Row `s` of a pair of rows, as the send buffer's and as a receive slot's load reads it. -/
def rowS (s : Fin 2) (v : Vec F S2x4x256 .f32) : Vec F S1x4x256 .f32 := fun i => v (ix3 s (i 1) (i 2))
def rowR (s : Fin 2) (v : Vec F S2x4x256 .f32) : Vec F S1x1x4x256 .f32 := fun i => v (ix3 s (i 2) (i 3))

/-- The kernel's block of the result on device `c`: its own block normalized by the four devices' sums, scaled and shifted. -/
def outAt (c : Dev nD) : Vec F S4x256x128 .bf16 :=
  k0_pay8 (xA m c) (k0_pay4 (tA m c) (wsA m c)) (k0_pay5 (tA m c) (whA m c))
    (k0_pay6 (rowS 0 (stats m c)) (rowR 0 (stats m (sh c 1))) (rowR 0 (stats m (sh c 2))) (rowR 0 (stats m (sh c 3))))
    (k0_pay7 (rowS 1 (stats m c)) (rowR 1 (stats m (sh c 1))) (rowR 1 (stats m (sh c 2))) (rowR 1 (stats m (sh c 3))))
    (Scalar.ofBits .f32 0x44000000#32)

/-! ## Points-to -/

/-- Buffer `b` of device `c`, whole, at share `q` and contents `f`. -/
abbrev pts (c : Dev nD) (b : Ref sig .tc) (q : PosShare TreeShare) (f : Buf (Elt F) ((c : Thread nD τ).loc b)) : sProp 𝕄 :=
  ((c : Thread nD τ).loc b) ↦{q} f

/-- Slot `j` of device `c`'s receive buffer at contents `f` of the buffer. -/
def slotPts (c : Dev nD) (j : Fin 3) (f : Buf (Elt F) ((slotM j).view.loc (c : Thread nD τ))) : sProp 𝕄 :=
  (slotM j).view.loc (c : Thread nD τ) ↦[(slotM j).view.set]{fullShare} f

/-- The slot holding the pair of rows `v`. -/
def slotAt (c : Dev nD) (j : Fin 3) (v : Vec F S2x4x256 .f32) : sProp 𝕄 :=
  iprop(∃ f, ⌜(slotM j).view.read (Elt F) f = v⌝ ∗ slotPts c j f)

/-- The quarters of the send buffer: three travel with the transfers, the fourth (`qk`) stays for the loads. -/
def qs : Fin 3 → PosShare TreeShare
  | 0 => fullShare.left.left | 1 => fullShare.left.right | 2 => fullShare.right.left
def qk : PosShare TreeShare := fullShare.right.right

omit [FloatOps F] in
instance slotPts_storable (c : Dev nD) (j : Fin 3) (f) : BI.Storable (upEmb : UEmb _ 𝕄) (slotPts (F := F) c j f) := by
  unfold slotPts; infer_instance
omit [FloatOps F] in
instance slotAt_storable (c : Dev nD) (j : Fin 3) (v) : BI.Storable (upEmb : UEmb _ 𝕄) (slotAt (F := F) c j v) := by
  unfold slotAt; infer_instance

/-! ## The schedule -/

/-- What the signal of unit `k` hands device `c`: slot `k` of the device that signals, at round 0 of the slot's cell. -/
def barPay (c : Dev nD) : Fin 3 → sProp 𝕄
  | 0 => iprop((∃ f, slotPts (sh c 3) 0 f) ∗ reached EX (kcell (sh c 3, 4)) 0)
  | 1 => iprop((∃ f, slotPts (sh c 2) 1 f) ∗ reached EX (kcell (sh c 2, 5)) 0)
  | 2 => iprop((∃ f, slotPts (sh c 1) 2 f) ∗ reached EX (kcell (sh c 1, 6)) 0)

def sendPay (c : Dev nD) (j : Fin 3) : sProp 𝕄 := pts c cc0_scratch4 (qs j) (stats m c)

def dmaPay (c : Dev nD) : ℕ → sProp 𝕄
  | 1 => sendPay m c 0
  | 2 => sendPay m c 1
  | 3 => sendPay m c 2
  | 4 => slotAt c 0 (stats m (sh c 1))
  | 5 => slotAt c 1 (stats m (sh c 2))
  | 6 => slotAt c 2 (stats m (sh c 3))
  | 7 => iprop(pts c cc0_scratch0 fullShare (xA m c) ∗ pts c main_arg0 fullShare (xA m c))
  | 8 => iprop(pts c cc0_scratch1 fullShare (tA m c) ∗ pts c main_arg1 fullShare (tA m c))
  | 9 => iprop(pts c cc0_scratch2 fullShare (wsA m c) ∗ pts c main_arg2 fullShare (wsA m c))
  | 10 => iprop(pts c cc0_scratch3 fullShare (whA m c) ∗ pts c main_arg3 fullShare (whA m c))
  | _ => iprop(emp)

def dmaAmt : ℕ → ℕ
  | 7 => NX
  | 8 => NT
  | 9 => NW
  | 10 => NW
  | _ => N

theorem dmaAmt_pos (q : ℕ) : 0 < dmaAmt q := by
  unfold dmaAmt; split <;> first | exact NX_pos | exact NT_pos | exact NW_pos | exact N_pos

/-- The duties of a semaphore's one round: three on a barrier, one on each DMA semaphore from 1 to 10. -/
def dutiesOf : SemLoc sig → Finset (Fin 3)
  | .reg _ => Finset.univ
  | .dma q => if 1 ≤ (q : Fin 12).val ∧ (q : Fin 12).val ≤ 10 then {0} else ∅
def amtOf : SemLoc sig → ℕ
  | .reg _ => 1
  | .dma q => dmaAmt (q : Fin 12).val
def payOf (c : Dev nD) : SemLoc sig → Fin 3 → sProp 𝕄
  | .reg _, d => barPay c d
  | .dma q, _ => dmaPay m c (q : Fin 12).val

def Rd : Rounds.Schedule (GSem nD τ sig) (Fin 3) 𝕄 where
  duties g r := if r = 0 ∧ g.1.2 = .tc then dutiesOf g.2 else ∅
  unitless _ := False
  amount g _ _ := amtOf g.2
  payload g _ d := payOf m g.1.1 g.2 d
  amount_pos g _ _ _ := by
    rcases g with ⟨t, s | s⟩
    · exact Nat.one_pos
    · exact dmaAmt_pos _

instance barPay_storable (c : Dev nD) (d : Fin 3) : BI.Storable (upEmb : UEmb _ 𝕄) (barPay (F := F) c d) := by
  unfold barPay; split <;> infer_instance
instance dmaPay_storable (c : Dev nD) (q : ℕ) : BI.Storable (upEmb : UEmb _ 𝕄) (dmaPay m c q) := by
  unfold dmaPay sendPay; split <;> infer_instance
instance Rd_payload_storable (g : GSem nD τ sig) (r : ℕ) (d : Fin 3) :
    BI.Storable (upEmb : UEmb _ 𝕄) ((Rd (F := F) m).payload g r d) := by
  show BI.Storable upEmb (payOf m g.1.1 g.2 d)
  rcases g with ⟨t, s | s⟩
  · exact barPay_storable _ _
  · exact dmaPay_storable m _ _

theorem duties_eq (c : Dev nD) (s : SemLoc sig) : (Rd (F := F) m).duties ((c : Thread nD τ), s) 0 = dutiesOf s := by
  dsimp only [Rd]
  exact if_pos ⟨rfl, rfl⟩
theorem duties_later (g : GSem nD τ sig) : ∀ r, 1 ≤ r → (Rd (F := F) m).duties g r = ∅ :=
  fun r hr => if_neg fun h => by have := h.1; omega
theorem amount_eq (c : Dev nD) (s : SemLoc sig) (d : Fin 3) : (Rd (F := F) m).amount ((c : Thread nD τ), s) 0 d = amtOf s := rfl
theorem payload_eq (c : Dev nD) (s : SemLoc sig) (d : Fin 3) : (Rd (F := F) m).payload ((c : Thread nD τ), s) 0 d = payOf m c s d := rfl

theorem dutiesOf_dma (k : Fin 12) (h : k ≠ 0) (h' : k ≠ 11) : dutiesOf (csem k) = {0} := by
  rw [csem_succ k h]; exact if_pos (by revert k; decide)

/-- What the wait on cell `k` of device `c` gets, and for how much it waits. -/
def got (c : Dev nD) (k : Fin 12) : sProp 𝕄 := bigSep (dutiesOf (csem k)) fun d => payOf m c (csem k) d
def expects (k : Fin 12) : ℕ := (dutiesOf (csem k)).sum fun _ => amtOf (csem k)

theorem expect_eq (c : Dev nD) (k : Fin 12) : (Rd (F := F) m).expect (kcell (c, k)) 0 = expects k := by
  unfold Schedule.expect Schedule.amountOf expects; rw [duties_eq]; rfl
theorem rest_eq (c : Dev nD) (k : Fin 12) :
    bigSep ((Rd (F := F) m).duties (kcell (c, k)) 0 \ ∅) (fun d => (Rd (F := F) m).payload (kcell (c, k)) 0 d) = got m c k := by
  rw [Finset.sdiff_empty, duties_eq]; rfl

theorem expects_bar : expects 0 = 3 := by unfold expects; rw [csem_zero]; rfl
theorem expects_dma (k : Fin 12) (h : k ≠ 0) (h' : k ≠ 11) : expects k = dmaAmt k.val := by
  unfold expects; rw [dutiesOf_dma k h h', Finset.sum_singleton, csem_succ k h]; rfl
theorem got_dma (c : Dev nD) (k : Fin 12) (h : k ≠ 0) (h' : k ≠ 11) : got m c k = dmaPay m c k.val := by
  unfold got; rw [dutiesOf_dma k h h', bigSep_singleton, csem_succ k h]; rfl
theorem got_bar (c : Dev nD) : got m c 0 = iprop(barPay c 0 ∗ barPay c 1 ∗ barPay c 2) := by
  unfold got; rw [csem_zero]
  exact bigSep_univ_eq_bigSepL [0, 1, 2] (by decide) (by decide) (fun d => barPay (F := F) c d)

/-! ## What each device owes at launch, and the levels of the waits -/

/-- After its barrier signals a device owes the three transfers into the other devices' slots: the last summand is the
    first transfer's. -/
def O₃ (c : Dev nD) : CellTallies nD τ sig Unit :=
  tallyAt (kcell (sh c 3, 4)) () N + tallyAt (kcell (sh c 2, 5)) () N + tallyAt (kcell (sh c 1, 6)) () N
def O₀ (c : Dev nD) : CellTallies nD τ sig Unit :=
  O₃ c + tallyAt (kcell (sh c 3, 0)) () 1 + tallyAt (kcell (sh c 2, 0)) () 1 + tallyAt (kcell (sh c 1, 0)) () 1

def L (g : GSem nD τ sig) : Finset Unit := if g.1.2 = .tc then {()} else ∅
/-- Barriers at 1, receive cells at 2, everything else at 0. -/
def lvS : SemLoc sig → ℕ
  | .reg _ => 1
  | .dma q => if 4 ≤ (q : Fin 12).val ∧ (q : Fin 12).val ≤ 6 then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem pos_add {A B : CellTallies nD τ sig Unit} {g : GSem nD τ sig} {u : Unit} (h : 0 < (A + B) g u) : 0 < A g u ∨ 0 < B g u := by
  rw [Pi.add_apply, Finsupp.add_apply] at h; omega
theorem pos_tally {g g' : GSem nD τ sig} {n : ℕ} {u : Unit} (h : 0 < tallyAt g' () n g u) : g = g' := by
  rw [tallyAt_apply] at h
  by_contra hn
  rw [if_neg fun h' => hn h'.1] at h
  exact Nat.lt_irrefl 0 h

theorem O₃_pos {c : Dev nD} {g : GSem nD τ sig} {u : Unit} (h : 0 < O₃ c g u) : g.1.2 = .tc ∧ 1 < lv g () := by
  unfold O₃ at h
  rcases pos_add h with h | h
  · rcases pos_add h with h | h <;> (rw [pos_tally h]; exact ⟨rfl, by show 1 < 2; decide⟩)
  · rw [pos_tally h]; exact ⟨rfl, by show 1 < 2; decide⟩
theorem O₀_pos {c : Dev nD} {g : GSem nD τ sig} {u : Unit} (h : 0 < O₀ c g u) : g.1.2 = .tc ∧ 0 < lv g () := by
  unfold O₀ at h
  rcases pos_add h with h | h
  · rcases pos_add h with h | h
    · rcases pos_add h with h | h
      · exact ⟨(O₃_pos h).1, Nat.lt_trans Nat.zero_lt_one (O₃_pos h).2⟩
      · rw [pos_tally h]; exact ⟨rfl, by show 0 < 1; decide⟩
    · rw [pos_tally h]; exact ⟨rfl, by show 0 < 1; decide⟩
  · rw [pos_tally h]; exact ⟨rfl, by show 0 < 1; decide⟩

omit [FloatOps F] in
/-- A wait is allowed at a level no cell it owes reaches. -/
theorem mayWait_of (c : Dev nD) (sm : SemLoc sig) (O : CellTallies nD τ sig Unit) (b : ℕ) (hs : lvS sm ≤ b)
    (hO : ∀ (g : GSem nD τ sig) (u : Unit), 0 < O g u → g.1.2 = .tc ∧ b < lv g ()) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

omit [FloatOps F] in
theorem mayWait_O₀ (c : Dev nD) (sm : SemLoc sig) (hs : lvS sm ≤ 0) : (levAts L lv : sProp 𝕄) ⊢ MayWait (c : Thread nD τ) sm () (O₀ c) :=
  mayWait_of c sm _ 0 hs fun _ _ h => O₀_pos h
omit [FloatOps F] in
theorem mayWait_O₃ (c : Dev nD) (sm : SemLoc sig) (hs : lvS sm ≤ 1) : (levAts L lv : sProp 𝕄) ⊢ MayWait (c : Thread nD τ) sm () (O₃ c) :=
  mayWait_of c sm _ 1 hs fun _ _ h => O₃_pos h
omit [FloatOps F] in
theorem mayWait_0 (c : Dev nD) (sm : SemLoc sig) : (levAts L lv : sProp 𝕄) ⊢ MayWait (c : Thread nD τ) sm () 0 := by
  rw [MayWait_zero]; iintro -; iempintro

/-! ## Reading and writing the exchanged rows -/

omit [FloatOps F] in
theorem rowS_ext (v w : Vec F S2x4x256 .f32) (h0 : rowS 0 v = rowS 0 w) (h1 : rowS 1 v = rowS 1 w) : v = w := by
  funext i
  rw [eq_ix3 i]
  rcases (show i 0 = (0 : Fin 2) ∨ i 0 = (1 : Fin 2) by
    have := (i 0).isLt
    rcases (show (i 0).val = 0 ∨ (i 0).val = 1 by change (i 0).val < 2 at this; omega) with h | h
    · exact Or.inl (Fin.ext h)
    · exact Or.inr (Fin.ext h)) with h | h <;> rw [h]
  · exact congrFun h0 (ix3 (0 : Fin 1) (i 1) (i 2))
  · exact congrFun h1 (ix3 (0 : Fin 1) (i 1) (i 2))

theorem ix_row (i : S1x4x256.Idx) : ix3 (0 : Fin 1) (i 1) (i 2) = i := by
  funext a; apply Fin.ext
  match a with
  | ⟨0, _⟩ => show 0 = (i 0).val; have := (i 0).isLt; change (i 0).val < 1 at this; omega
  | ⟨1, _⟩ => rfl
  | ⟨2, _⟩ => rfl

theorem rowS0_rowsOf (x : Vec F S4x256x128 .f32) : rowS 0 (rowsOf x) = k0_pay1 x := by
  funext i
  dsimp only [rowS, rowsOf]
  exact (if_pos (by rfl)).trans (congrArg (k0_pay1 x) (ix_row i))
theorem rowS1_rowsOf (x : Vec F S4x256x128 .f32) : rowS 1 (rowsOf x) = k0_pay3 (k0_pay2 x) := by
  funext i
  dsimp only [rowS, rowsOf]
  exact (if_neg (show ¬ (1 : ℕ) = 0 from Nat.one_ne_zero)).trans (congrArg (k0_pay3 (k0_pay2 x)) (ix_row i))

abbrev sr0 : Rect S2x4x256 := Rect.unit (s := S2x4x256) ![0, 0, 0] S1x4x256.size inb_S2x4x256_S1x4x256_0_0_0
abbrev sr1 : Rect S2x4x256 := Rect.unit (s := S2x4x256) ![1, 0, 0] S1x4x256.size inb_S2x4x256_S1x4x256_1_0_0

omit [FloatOps F] in
theorem sr0_emb (i : S1x4x256.Idx) : sr0.emb i = ix3 (0 : Fin 2) (i 1) (i 2) := by
  funext a; apply Fin.ext
  match a with
  | ⟨0, _⟩ => show 0 + 1 * (i 0).val = 0; have := (i 0).isLt; change (i 0).val < 1 at this; omega
  | ⟨1, _⟩ => show 0 + 1 * (i 1).val = (i 1).val; omega
  | ⟨2, _⟩ => show 0 + 1 * (i 2).val = (i 2).val; omega
omit [FloatOps F] in
theorem sr1_emb (i : S1x4x256.Idx) : sr1.emb i = ix3 (1 : Fin 2) (i 1) (i 2) := by
  funext a; apply Fin.ext
  match a with
  | ⟨0, _⟩ => show 1 + 1 * (i 0).val = 1; have := (i 0).isLt; change (i 0).val < 1 at this; omega
  | ⟨1, _⟩ => show 0 + 1 * (i 1).val = (i 1).val; omega
  | ⟨2, _⟩ => show 0 + 1 * (i 2).val = (i 2).val; omega

omit [FloatOps F] in
theorem read_sr0 (f : Vec F S2x4x256 .f32) : statM.view.readAt (Elt F) sr0.toLoadRect f = rowS 0 f := by
  funext i; exact congrArg f (sr0_emb i)
omit [FloatOps F] in
theorem read_sr1 (f : Vec F S2x4x256 .f32) : statM.view.readAt (Elt F) sr1.toLoadRect f = rowS 1 f := by
  funext i; exact congrArg f (sr1_emb i)

omit [FloatOps F] in
theorem rows_disjoint : Disjoint (statM.view.slice sr0).set (statM.view.slice sr1).set :=
  View.disjoint_slice_of_sep _ sr0 sr1 (0 : Fin 3) rfl rfl (Or.inl (by decide))

omit [FloatOps F] in
/-- Through the send buffer's row accesses, a read is the row. -/
theorem access_sr0 (f : Vec F S2x4x256 .f32) : (statM.access sr0).read (Elt F) f = rowS 0 f := read_sr0 f
omit [FloatOps F] in
theorem access_sr1 (f : Vec F S2x4x256 .f32) : (statM.access sr1).read (Elt F) f = rowS 1 f := read_sr1 f

/-- The two stores leave the device's rows of sums, whatever the send buffer held. -/
theorem write_stats (x : Vec F S4x256x128 .f32) (f : Vec F S2x4x256 .f32) :
    (statM.access sr1).write (Elt F) ((statM.access sr0).write (Elt F) f (k0_pay1 x) Finset.univ) (k0_pay3 (k0_pay2 x)) Finset.univ
      = rowsOf x := by
  refine rowS_ext _ _ ?_ ?_
  · rw [rowS0_rowsOf, ← access_sr0, View.read_congr (g := (statM.access sr0).write (Elt F) f (k0_pay1 x) Finset.univ)]
    · exact View.read_write_univ _ _
    · intro j hj
      refine View.write_of_not_mem _ _ _ ?_
      rw [View.setOn_univ]
      exact Finset.disjoint_left.mp rows_disjoint hj
  · rw [rowS1_rowsOf, ← access_sr1]
    exact View.read_write_univ _ _

theorem row_inb (j : Fin 3) (s : Fin 2) : ∀ a, (![j.val, s.val, 0, 0] : Fin 4 → Nat) a + S1x1x4x256.size a ≤ S3x2x4x256.size a := by
  revert j s; decide
abbrev rr (j : Fin 3) (s : Fin 2) : Rect S3x2x4x256 := Rect.unit (s := S3x2x4x256) ![j.val, s.val, 0, 0] S1x1x4x256.size (row_inb j s)

omit [FloatOps F] in
theorem rr_emb (j : Fin 3) (s : Fin 2) (i : S1x1x4x256.Idx) : (rr j s).emb i = ix4 j s (i 2) (i 3) := by
  funext a; apply Fin.ext
  match a with
  | ⟨0, _⟩ => show j.val + 1 * (i 0).val = j.val; have := (i 0).isLt; change (i 0).val < 1 at this; omega
  | ⟨1, _⟩ => show s.val + 1 * (i 1).val = s.val; have := (i 1).isLt; change (i 1).val < 1 at this; omega
  | ⟨2, _⟩ => show 0 + 1 * (i 2).val = (i 2).val; omega
  | ⟨3, _⟩ => show 0 + 1 * (i 3).val = (i 3).val; omega

omit [FloatOps F] in
theorem slot_emb (j : Fin 3) (a : Fin 2) (b : Fin 4) (d : Fin 256) : (slotM j).view.emb (ix3 a b d) = ix4 j a b d := by
  show (slotR j).emb (Shape.reshapeEquiv _ (ix3 a b d)) = _
  rw [reshapeEquiv_ix3_1abc]
  funext e; apply Fin.ext
  match e with
  | ⟨0, _⟩ => show j.val + 1 * 0 = j.val; omega
  | ⟨1, _⟩ => show 0 + 1 * a.val = a.val; omega
  | ⟨2, _⟩ => show 0 + 1 * b.val = b.val; omega
  | ⟨3, _⟩ => show 0 + 1 * d.val = d.val; omega

omit [FloatOps F] in
/-- A load of row `s` of slot `j` through the whole receive buffer reads row `s` of what the slot holds. -/
theorem read_rr (j : Fin 3) (s : Fin 2) (f : Vec F S3x2x4x256 .f32) :
    recvM.view.readAt (Elt F) (rr j s).toLoadRect f = rowR s ((slotM j).view.read (Elt F) f) := by
  funext i
  have h1 : recvM.view.readAt (Elt F) (rr j s).toLoadRect f i = f (ix4 j s (i 2) (i 3)) := congrArg f (rr_emb j s i)
  have h2 : (slotM j).view.read (Elt F) f (ix3 s (i 2) (i 3)) = f (ix4 j s (i 2) (i 3)) := congrArg f (slot_emb j s (i 2) (i 3))
  rw [h1]; exact h2.symm

omit [FloatOps F] in
theorem rr_sub (j : Fin 3) (s : Fin 2) : recvM.view.setOn (rr j s).toLoadRect.set ⊆ (slotM j).view.set := by
  rw [Memref.set_view_squeeze]
  refine Memref.setOn_subset_hull recvM (rr j s).toLoadRect (slotR j) (fun _ => rfl) fun a => ?_
  revert j s a; decide

omit [FloatOps F] in
theorem slots_disjoint (i j : Fin 3) (h : i ≠ j) : Disjoint (slotM i).view.set (slotM j).view.set := by
  rw [Memref.set_view_squeeze, Memref.set_view_squeeze]
  refine View.disjoint_slice_of_sep _ (slotR i) (slotR j) (0 : Fin 4) rfl rfl ?_
  revert i j; decide

end Cert.Norm

end
-- ==== Proof.Body.lean ====
/-
One run of the kernel's body on device `c`, from its share of the exchange's ghost state to its block of the result.

The body copies the four arguments into VMEM, signals the three other devices' barriers (handing each the receive slot it
will write), sums its block of `x`, waits on its own barrier, sends its rows of sums into the three slots it was handed,
waits for the arguments and for the three rows of sums sent to it, normalizes, and last takes back the send buffer.
-/
module

public import proofs.«01_k».proof.Proof.Protocol
public import proofs.«01_k».proof.Proof.Gen.KernelIdeal.Points

@[expose] public section

noncomputable section

namespace Cert.Norm

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Ghost state -/

/-- Every cell's invariant, under the names `K`, and that every cell is at round 0: known to all devices. -/
def records (K : Dev nD × Fin 12 → ℕ) : sProp 𝕄 :=
  iprop((bigSep Finset.univ fun ck : Dev nD × Fin 12 => cellInv EX (Rd m) (K ck) (kcell ck))
    ∗ bigSep Finset.univ fun ck : Dev nD × Fin 12 => reached EX (kcell ck) 0)

instance records_persistent (K : Dev nD × Fin 12 → ℕ) : BI.Persistent (records (F := F) m K) := by unfold records; infer_instance

theorem inv_at (K : Dev nD × Fin 12 → ℕ) (ck : Dev nD × Fin 12) :
    (bigSep Finset.univ fun ck : Dev nD × Fin 12 => (cellInv EX (Rd m) (K ck) (kcell ck) : sProp 𝕄)) ⊢ cellInv EX (Rd m) (K ck) (kcell ck) :=
  bigSep_elim (Finset.mem_univ ck)
omit [FloatOps F] in
theorem reached_at (ck : Dev nD × Fin 12) :
    (bigSep Finset.univ fun ck : Dev nD × Fin 12 => (reached EX (kcell ck) 0 : sProp 𝕄)) ⊢ reached EX (kcell ck) 0 :=
  bigSep_elim (Finset.mem_univ ck)

theorem records_inv (K : Dev nD × Fin 12 → ℕ) (ck : Dev nD × Fin 12) : records (F := F) m K ⊢ cellInv EX (Rd m) (K ck) (kcell ck) := by
  unfold records
  iintro ⟨#HI, -⟩
  iapply (inv_at m K ck); iexact HI
theorem records_reached (K : Dev nD × Fin 12 → ℕ) (ck : Dev nD × Fin 12) : records (F := F) m K ⊢ reached EX (kcell ck) 0 := by
  unfold records
  iintro ⟨-, #HR⟩
  iapply (reached_at (F := F) ck); iexact HR

/-- The tokens of the duties device `c` pays: the three barriers it signals, the three slots it writes, its own send and
    local cells. -/
def payToks (c : Dev nD) : sProp 𝕄 :=
  iprop(dutyTok EX (kcell (sh c 1, 0)) 0 0 ∗ dutyTok EX (kcell (sh c 2, 0)) 0 1 ∗ dutyTok EX (kcell (sh c 3, 0)) 0 2
    ∗ dutyTok EX (kcell (sh c 3, 4)) 0 0 ∗ dutyTok EX (kcell (sh c 2, 5)) 0 0 ∗ dutyTok EX (kcell (sh c 1, 6)) 0 0
    ∗ dutyTok EX (kcell (c, 1)) 0 0 ∗ dutyTok EX (kcell (c, 2)) 0 0 ∗ dutyTok EX (kcell (c, 3)) 0 0
    ∗ dutyTok EX (kcell (c, 7)) 0 0 ∗ dutyTok EX (kcell (c, 8)) 0 0 ∗ dutyTok EX (kcell (c, 9)) 0 0 ∗ dutyTok EX (kcell (c, 10)) 0 0)

/-- Device `c`'s position on its own cells: at round 0 of each. -/
def positions (c : Dev nD) : sProp 𝕄 := bigSep Finset.univ fun k : Fin 12 => atPos EX (kcell (c, k)) 0 ∅ 0
/-- Its own cells closed, their counters at zero. -/
def counters (c : Dev nD) : sProp 𝕄 := bigSep Finset.univ fun k : Fin 12 => semVal (kcell (c, k)) 0

def ghost (K : Dev nD × Fin 12 → ℕ) (c : Dev nD) : sProp 𝕄 := iprop(records m K ∗ positions c ∗ payToks c)

/-- The credit of what the other devices owe device `c`. -/
def creds (c : Dev nD) : sProp 𝕄 :=
  iprop(cred (tallyAt (kcell (c, 0)) () 3) ∗ cred (tallyAt (kcell (c, 4)) () N) ∗ cred (tallyAt (kcell (c, 5)) () N)
    ∗ cred (tallyAt (kcell (c, 6)) () N))

/-- The four arguments of device `c`. -/
def args (c : Dev nD) : sProp 𝕄 :=
  iprop(pts c main_arg0 fullShare (xA m c) ∗ pts c main_arg1 fullShare (tA m c) ∗ pts c main_arg2 fullShare (wsA m c)
    ∗ pts c main_arg3 fullShare (whA m c))

/-- The scratch buffers of device `c`, at any contents. -/
def scratch (c : Dev nD) : sProp 𝕄 :=
  iprop((∃ f, pts c cc0_scratch0 fullShare f) ∗ (∃ f, pts c cc0_scratch1 fullShare f) ∗ (∃ f, pts c cc0_scratch2 fullShare f)
    ∗ (∃ f, pts c cc0_scratch3 fullShare f) ∗ (∃ f, pts c cc0_scratch4 fullShare f) ∗ (∃ f, pts c cc0_scratch5 fullShare f))

def start (c : Dev nD) : sProp 𝕄 := iprop((∃ K, ghost m K c) ∗ creds c ∗ levAts L lv ∗ args m c)

def Φ₀ (c : Dev nD) : sProp 𝕄 := iprop(start m c ∗ scratch c)
def Φ₁ (c : Dev nD) : sProp 𝕄 := iprop(scratch c ∗ counters c ∗ args m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Steps -/

/-- What the device owes, whatever it waited for. -/
abbrev ow (c : Dev nD) (O : CellTallies nD τ sig Unit) : sProp 𝕄 := iprop(∃ W, owes (c : Thread nD τ) O W)

section Steps

variable (K : Dev nD × Fin 12 → ℕ)

/-- A wait for all a cell's round brings: the cell closes, and its payloads are the device's. -/
theorem wp_wait_cell (c : Dev nD) (q : Fin 12) {w : TpuEff nD τ sig (Elt F) Λ₀ .tc PUnit} {n n' : ℕ} {sm : SemLoc sig} (hsm : sm = csem q)
    (hw : ∀ J : PUnit → sProp 𝕄, wpE (defs₀ (F := F)) 𝒱₀ (c : Thread nD τ) none Set.univ w J = waitSpec (c : Thread nD τ) Set.univ sm n' J)
    (hnn : n' = n) (hn : expects q = n) {O : CellTallies nD τ sig Unit} (hmay : (levAts L lv : sProp 𝕄) ⊢ MayWait (c : Thread nD τ) (csem q) () O)
    {α : Type} {Q : α → sProp 𝕄} {k : PUnit → Prog (TpuEff nD τ sig (Elt F) Λ₀ .tc) α} :
    iprop(records m K ∗ levAts L lv ∗ cred (tallyAt (kcell (c, q)) () n) ∗ ow c O ∗ atPos EX (kcell (c, q)) 0 ∅ 0)
      ⊢ iprop(((ow c O ∗ semVal (kcell (c, q)) 0 ∗ got m c q) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hsm; subst hnn
  iintro ⟨#HR, #HL, Hc, ⟨%W, HO⟩, Hat⟩ Hk
  iapply (Rounds.wp_wait_rest_token 𝒱₀ EX (Rd m) (c : Thread nD τ) none (κ := K (c, q)) hw (Set.mem_univ _) () (O := O) (W := W) (R := 0) (m := 0) (T := ∅)
      (by rw [Nat.zero_add, ← hn]; exact (expect_eq m c q).symm)) $$ [Hc HO Hat]
  · isplitr; · iapply (records_inv m K (c, q)); iexact HR
    isplitl [Hc]; · iexact Hc
    isplitl [HO]; · iexact HO
    isplitr; · iapply hmay; iexact HL
    iexact Hat
  iintro ⟨HO, Hat, -, Hpay⟩
  imod (Rounds.cell_close EX (Rd m) (Set.mem_univ (K (c, q))) (fun h => h) (R := 0 + 1) (duties_later m (kcell (c, q)))) $$ [Hat] with Hz
  · isplitr; · iapply (records_inv m K (c, q)); iexact HR
    iexact Hat
  iapply Hk
  isplitl [HO]; · iexists _; iexact HO
  isplitl [Hz]; · iexact Hz
  iapply (Entails.of_eq (rest_eq m c q)); iexact Hpay

/-- The issue of a copy of an argument into VMEM. -/
theorem wp_fetch (c : Dev nD) (q : Fin 12) (hq : q ≠ 0) (hq' : q ≠ 11) {sp sp' : Space} {s : Shape} {e : EltTy} {src : Memref sig .tc sp s e} {dst : Memref sig .tc sp' s e}
    {sem : SemLoc sig} (hsem : sem = csem q) (hss : src.view.set = Finset.univ) (hds : dst.view.set = Finset.univ)
    {hsrc : src.view.WordExact} {hdst : dst.view.WordExact} {hty : DmaTarget.Typed sp sem (.here dst : DmaTarget nD τ sig .tc sp' s e)}
    (fs : Buf (Elt F) (src.view.loc (c : Thread nD τ))) (fd : Buf (Elt F) (dst.view.loc (c : Thread nD τ))) {n : ℕ} (hN : dst.view.amount sem = n) (hn : dmaAmt q.val = n)
    (hpay : iprop((dst.view.loc (c : Thread nD τ) ↦{fullShare} (dst.view.write (Elt F) fd (src.view.read (Elt F) fs) Finset.univ))
              ∗ (src.view.loc (c : Thread nD τ) ↦{fullShare} fs)) ⊢ dmaPay m c q.val)
    {α : Type} {Q : α → sProp 𝕄} {k : PUnit → Prog (TpuEff nD τ sig (Elt F) Λ₀ .tc) α} :
    iprop(records m K ∗ (src.view.loc (c : Thread nD τ) ↦{fullShare} fs) ∗ (dst.view.loc (c : Thread nD τ) ↦{fullShare} fd) ∗ dutyTok EX (kcell (c, q)) 0 0)
      ⊢ iprop((cred (tallyAt (kcell (c, q)) () n) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) sem hsrc hdst hty) k) Q) := by
  subst hsem
  iintro ⟨#HR, Hs, Hd, Ht⟩
  iapply (Rounds.wp_copy_pointsTo 𝒱₀ EX (Rd m) (c : Thread nD τ) none (κ := K (c, q)) (r := 0) (d := 0) (fs := fs) (fd := fd) (q := fullShare)
    (by rw [duties_eq, dutiesOf_dma q hq hq']; exact Finset.mem_singleton_self _) () n hN
    (by rw [amount_eq, csem_succ q hq]; exact hn)
    (by rw [payload_eq, hss, hds, csem_succ q hq]; exact hpay))
  isplitr; · iapply (records_inv m K (c, q)); iexact HR
  isplitl [Hs]; · rw [hss]; iexact Hs
  isplitl [Hd]; · rw [hds]; iexact Hd
  isplitl [Ht]; · iexact Ht
  iapply (records_reached m K (c, q)); iexact HR

omit [FloatOps F] in
theorem statM_pts (c : Dev nD) (q : PosShare TreeShare) (f : Vec F S2x4x256 .f32) :
    (statM.view.loc (c : Thread nD τ) ↦[statM.view.set]{q} f : sProp 𝕄) = pts c cc0_scratch4 q f := by
  exact congrArg (fun S => ((c : Thread nD τ).loc cc0_scratch4 ↦[S]{q} f : sProp 𝕄)) (View.set_whole cc0_scratch4)

omit [FloatOps F] in
/-- A transfer of the rows `v` into a slot leaves the slot holding them. -/
theorem slot_landing (d : Dev nD) (j : Fin 3) (v : Vec F S2x4x256 .f32) (fd : Buf (Elt F) ((slotM j).view.loc (d : Thread nD τ))) :
    ((slotM j).view.loc (d : Thread nD τ) ↦[(slotM j).view.set]{fullShare} ((slotM j).view.write (Elt F) fd (statM.view.read (Elt F) v) Finset.univ) : sProp 𝕄)
      ⊢ slotAt d j v := by
  unfold slotAt slotPts
  iintro H
  iexists ((slotM j).view.write (Elt F) fd (statM.view.read (Elt F) v) Finset.univ)
  isplitr
  · ipureintro; exact View.read_write_univ _ _
  · iexact H

/-- The issue of a transfer of the device's rows of sums into slot `j` of device `d`, that paid `i` of its own send cells. -/
theorem wp_send_rows (c d n : Dev nD) (hnd : n = d) (i j : Fin 3) (a b : Fin 12) (ha : a ≠ 0) (ha' : a ≠ 11) (hb : b ≠ 0) (hb' : b ≠ 11)
    (hNa : dmaAmt a.val = N) (hNb : dmaAmt b.val = N)
    (hpa : dmaPay m c a.val = sendPay m c i) (hpb : dmaPay m d b.val = slotAt d j (stats m c))
    {dst : Memref sig .tc .vmem S2x4x256 .f32} (hdj : dst = slotM j) {sS sem : SemLoc sig} (hsa : sS = csem a) (hsb : sem = csem b)
    {hsc : dst.view.ref.isScScratch = false}
    {hsrc : statM.view.WordExact} {hdst : dst.view.WordExact} {hty : DmaTarget.Typed .vmem sem (.remote (Dev.tc n : Thread nD τ) dst sS hsc)}
    {O' : CellTallies nD τ sig Unit} (O : CellTallies nD τ sig Unit) (hO : O' = O + tallyAt (kcell (d, b)) () N)
    (fd : Buf (Elt F) ((slotM j).view.loc (d : Thread nD τ)))
    {α : Type} {Q : α → sProp 𝕄} {k : PUnit → Prog (TpuEff nD τ sig (Elt F) Λ₀ .tc) α} :
    iprop(records m K ∗ pts c cc0_scratch4 (qs i) (stats m c) ∗ slotPts d j fd ∗ ow c O' ∗ dutyTok EX (kcell (c, a)) 0 0 ∗ dutyTok EX (kcell (d, b)) 0 0)
      ⊢ iprop(((cred (tallyAt (kcell (c, a)) () N) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma statM (.remote (Dev.tc n : Thread nD τ) dst sS hsc) sem hsrc hdst hty) k) Q) := by
  subst hnd; subst hdj; subst hsa; subst hsb
  iintro ⟨#HR, Hs, Hd, ⟨%W, HO⟩, Hta, Htb⟩ Hk
  unfold slotPts
  iapply (Rounds.wp_send_pointsTo 𝒱₀ EX (Rd m) (c : Thread nD τ) none (κ₁ := K (c, a)) (κ₂ := K (n, b)) (r₁ := 0) (r₂ := 0) (d₁ := 0) (d₂ := 0)
    (q := qs i) (fs := stats m c) (fd := fd)
    (by rw [duties_eq, dutiesOf_dma a ha ha']; exact Finset.mem_singleton_self _)
    (by rw [duties_eq, dutiesOf_dma b hb hb']; exact Finset.mem_singleton_self _)
    () () N (by rw [csem_succ b hb])
    (by rw [amount_eq, csem_succ a ha]; exact hNa) (by rw [amount_eq, csem_succ b hb]; exact hNb) O hO (W := W)
    (by
      rw [payload_eq, csem_succ a ha]
      show _ ⊢ dmaPay m c a.val
      rw [hpa]; exact Entails.of_eq (statM_pts c (qs i) (stats m c)))
    (by
      rw [payload_eq, csem_succ b hb]
      show _ ⊢ dmaPay m n b.val
      rw [hpb]; exact slot_landing n j (stats m c) fd)) $$ [Hs Hd HO Hta Htb]
  · isplitr; · iapply (records_inv m K (c, a)); iexact HR
    isplitr; · iapply (records_inv m K (n, b)); iexact HR
    isplitl [Hs]; · iapply (Entails.of_eq (statM_pts c (qs i) (stats m c)).symm); iexact Hs
    isplitl [Hd]; · iexact Hd
    isplitl [HO]; · iexact HO
    isplitl [Hta]; · iexact Hta
    isplitr; · iapply (records_reached m K (c, a)); iexact HR
    isplitl [Htb]; · iexact Htb
    iapply (records_reached m K (n, b)); iexact HR
  iintro ⟨Hc, HO⟩
  iapply Hk
  isplitl [Hc]; · iexact Hc
  iexists _; iexact HO

end Steps

/-! ## The buffers' points-to, cut and rejoined -/

omit [FloatOps F] in
theorem slotPts_eq (c : Dev nD) (j : Fin 3) (f : Buf (Elt F) ((c : Thread nD τ).loc cc0_scratch5)) :
    slotPts c j f = (((c : Thread nD τ).loc cc0_scratch5) ↦[(slotM j).view.set]{fullShare} f : sProp 𝕄) := rfl

omit [FloatOps F] in
/-- The receive buffer is its three slots (and what lies outside them, nothing). -/
theorem recv_split (c : Dev nD) :
    iprop(∃ f, pts c cc0_scratch5 fullShare f) ⊢ (iprop(((∃ f, slotPts c 0 f) ∗ (∃ f, slotPts c 1 f) ∗ (∃ f, slotPts c 2 f))
      ∗ ∃ f, ((c : Thread nD τ).loc cc0_scratch5) ↦[Finset.univ \ Finset.univ.biUnion fun j : Fin 3 => (slotM j).view.set]{fullShare} f) : sProp 𝕄) := by
  refine (Ring.pieces_split_spare (ℓ := (c : Thread nD τ).loc cc0_scratch5) (q := fullShare) (fun j : Fin 3 => (slotM j).view.set) slots_disjoint
    (fun j f => slotPts c j f) (fun j f => slotPts_eq c j f)).trans ?_
  rw [bigSep_fin3]
omit [FloatOps F] in
theorem recv_join (c : Dev nD) :
    (iprop(((∃ f, slotPts c 0 f) ∗ (∃ f, slotPts c 1 f) ∗ (∃ f, slotPts c 2 f))
      ∗ ∃ f, ((c : Thread nD τ).loc cc0_scratch5) ↦[Finset.univ \ Finset.univ.biUnion fun j : Fin 3 => (slotM j).view.set]{fullShare} f) : sProp 𝕄)
      ⊢ iprop(∃ f, pts c cc0_scratch5 fullShare f) := by
  refine BIBase.Entails.trans ?_ (Ring.pieces_join_spare (ℓ := (c : Thread nD τ).loc cc0_scratch5) (q := fullShare) (fun j : Fin 3 => (slotM j).view.set) slots_disjoint
    (fun j f => slotPts c j f) (fun j f => slotPts_eq c j f))
  rw [bigSep_fin3]

omit [FloatOps F] in
/-- The send buffer's quarters. -/
theorem stat_split (c : Dev nD) (f : Vec F S2x4x256 .f32) :
    (pts c cc0_scratch4 fullShare f : sProp 𝕄) ⊢ iprop(pts c cc0_scratch4 (qs 0) f ∗ pts c cc0_scratch4 (qs 1) f ∗ pts c cc0_scratch4 (qs 2) f ∗ pts c cc0_scratch4 qk f) := by
  iintro H
  ihave H' := (pointsTo_share (PosShare.mem_left_op_right fullShare)).1 $$ H
  icases H' with ⟨HL, HR⟩
  ihave HL' := (pointsTo_share (PosShare.mem_left_op_right fullShare.left)).1 $$ HL
  ihave HR' := (pointsTo_share (PosShare.mem_left_op_right fullShare.right)).1 $$ HR
  icases HL' with ⟨H0, H1⟩
  icases HR' with ⟨H2, H3⟩
  isplitl [H0]; · iexact H0
  isplitl [H1]; · iexact H1
  isplitl [H2]; · iexact H2
  iexact H3
omit [FloatOps F] in
theorem stat_join (c : Dev nD) (f : Vec F S2x4x256 .f32) :
    (iprop(pts c cc0_scratch4 (qs 0) f ∗ pts c cc0_scratch4 (qs 1) f ∗ pts c cc0_scratch4 (qs 2) f ∗ pts c cc0_scratch4 qk f) : sProp 𝕄) ⊢ pts c cc0_scratch4 fullShare f := by
  iintro ⟨H0, H1, H2, H3⟩
  iapply (pointsTo_share (PosShare.mem_left_op_right fullShare)).2
  isplitl [H0 H1]
  · iapply (pointsTo_share (PosShare.mem_left_op_right fullShare.left)).2
    isplitl [H0]; · iexact H0
    iexact H1
  · iapply (pointsTo_share (PosShare.mem_left_op_right fullShare.right)).2
    isplitl [H2]; · iexact H2
    iexact H3

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

/-! ## The body -/

section Body

variable (K : Dev nD × Fin 12 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ creds c ∗ levAts L lv ∗ args m c ∗ scratch c)
    ∗ (dats m ρ 0 c).owesAt () t₀.castSucc
    ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outAt m c))

omit [FloatOps F] in
/-- A copy into the whole of a buffer leaves what it copied. -/
theorem fetched {b : Ref sig .tc} (c : Dev nD) (f : Buf (Elt F) ((c : Thread nD τ).loc b)) (w : b.ty.Contents (Elt F)) :
    ((c : Thread nD τ).loc b ↦{fullShare} ((View.whole b).write (Elt F) f w Finset.univ) : sProp 𝕄) = pts c b fullShare w := by
  rw [View.write_whole_univ]

theorem duties_none (c : Dev nD) : ∀ r, 0 ≤ r → (Rd (F := F) m).duties (kcell (c, 11)) r = ∅ := by
  rintro (_ | r) -
  · rw [duties_eq]; show dutiesOf (csem 11) = ∅; decide
  · exact duties_later m _ _ (Nat.succ_pos r)

/-! What the loads and stores read and leave. -/

omit [FloatOps F] in
theorem rd0 (f : Vec F S4x256x128 .f32) : (Memref.whole cc0_scratch0 : Memref sig .tc .vmem S4x256x128 .f32).view.readAt (Elt F)
    (Rect.unit (s := S4x256x128) ![0, 0, 0] S4x256x128.size inb_S4x256x128_S4x256x128_0_0_0).toLoadRect f = f :=
  Memref.readAt_unit_zero (Elt F) cc0_scratch0 hz3 _ f
omit [FloatOps F] in
theorem rd1 (f : Vec F S4x128 .f32) : (Memref.whole cc0_scratch1 : Memref sig .tc .vmem S4x128 .f32).view.readAt (Elt F)
    (Rect.unit (s := S4x128) ![0, 0] S4x128.size inb_S4x128_S4x128_0_0).toLoadRect f = f :=
  Memref.readAt_unit_zero (Elt F) cc0_scratch1 hz2 _ f
omit [FloatOps F] in
theorem rd2 (f : Vec F S128x128 .f32) : (Memref.whole cc0_scratch2 : Memref sig .tc .vmem S128x128 .f32).view.readAt (Elt F)
    (Rect.unit (s := S128x128) ![0, 0] S128x128.size inb_S128x128_S128x128_0_0).toLoadRect f = f :=
  Memref.readAt_unit_zero (Elt F) cc0_scratch2 hz2 _ f
omit [FloatOps F] in
theorem rd3 (f : Vec F S128x128 .f32) : (Memref.whole cc0_scratch3 : Memref sig .tc .vmem S128x128 .f32).view.readAt (Elt F)
    (Rect.unit (s := S128x128) ![0, 0] S128x128.size inb_S128x128_S128x128_0_0).toLoadRect f = f :=
  Memref.readAt_unit_zero (Elt F) cc0_scratch3 hz2 _ f
omit [FloatOps F] in
theorem wr_out (f w : Vec F S4x256x128 .bf16) : ((Memref.whole cc0_stg0_0 : Memref sig .tc .vmem S4x256x128 .bf16).access
    (Rect.unit (s := S4x256x128) ![0, 0, 0] S4x256x128.size inb_S4x256x128_S4x256x128_0_0_0) : View sig .tc _ _ _).write (Elt F) f w Finset.univ = w :=
  Memref.write_access_unit_zero_univ (Elt F) cc0_stg0_0 hz3 _ f w

theorem stored (c : Dev nD) (f : Vec F S2x4x256 .f32) :
    (pts c cc0_scratch4 fullShare ((statM.access sr1).write (Elt F) ((statM.access sr0).write (Elt F) f (k0_pay1 (xA m c)) Finset.univ)
        (k0_pay3 (k0_pay2 (xA m c))) Finset.univ) : sProp 𝕄) ⊢ pts c cc0_scratch4 fullShare (stats m c) :=
  Entails.of_eq (congrArg (fun g => pts c cc0_scratch4 fullShare g) (write_stats (xA m c) f))

/-! What a signal brings, and what each wait gets. -/

theorem signal0 (c : Dev nD) : iprop((∃ f, slotPts (F := F) c 0 f) ∗ reached EX (kcell (c, 4)) 0)
    ⊢ (Rd m).payload ((sh c 1 : Thread nD τ), SemLoc.reg barS) 0 0 := by
  rw [payload_eq]; show _ ⊢ barPay (sh c 1) 0; unfold barPay; rw [sh_13]
theorem signal1 (c : Dev nD) : iprop((∃ f, slotPts (F := F) c 1 f) ∗ reached EX (kcell (c, 5)) 0)
    ⊢ (Rd m).payload ((sh c 2 : Thread nD τ), SemLoc.reg barS) 0 1 := by
  rw [payload_eq]; show _ ⊢ barPay (sh c 2) 1; unfold barPay; rw [sh_22]
theorem signal2 (c : Dev nD) : iprop((∃ f, slotPts (F := F) c 2 f) ∗ reached EX (kcell (c, 6)) 0)
    ⊢ (Rd m).payload ((sh c 3 : Thread nD τ), SemLoc.reg barS) 0 2 := by
  rw [payload_eq]; show _ ⊢ barPay (sh c 3) 2; unfold barPay; rw [sh_31]

theorem got0 (c : Dev nD) : got m c 0 ⊢ iprop(((∃ f, slotPts (sh c 3) 0 f) ∗ reached EX (kcell (sh c 3, 4)) 0)
    ∗ ((∃ f, slotPts (sh c 2) 1 f) ∗ reached EX (kcell (sh c 2, 5)) 0) ∗ ((∃ f, slotPts (sh c 1) 2 f) ∗ reached EX (kcell (sh c 1, 6)) 0)) :=
  Entails.of_eq (got_bar m c)
theorem got1 (c : Dev nD) : got m c 1 ⊢ pts c cc0_scratch4 (qs 0) (stats m c) := Entails.of_eq (got_dma m c 1 (by decide) (by decide))
theorem got2 (c : Dev nD) : got m c 2 ⊢ pts c cc0_scratch4 (qs 1) (stats m c) := Entails.of_eq (got_dma m c 2 (by decide) (by decide))
theorem got3 (c : Dev nD) : got m c 3 ⊢ pts c cc0_scratch4 (qs 2) (stats m c) := Entails.of_eq (got_dma m c 3 (by decide) (by decide))
theorem got4 (c : Dev nD) : got m c 4 ⊢ iprop(∃ f, ⌜(slotM 0).view.read (Elt F) f = stats m (sh c 1)⌝ ∗ slotPts c 0 f) :=
  Entails.of_eq (got_dma m c 4 (by decide) (by decide))
theorem got5 (c : Dev nD) : got m c 5 ⊢ iprop(∃ f, ⌜(slotM 1).view.read (Elt F) f = stats m (sh c 2)⌝ ∗ slotPts c 1 f) :=
  Entails.of_eq (got_dma m c 5 (by decide) (by decide))
theorem got6 (c : Dev nD) : got m c 6 ⊢ iprop(∃ f, ⌜(slotM 2).view.read (Elt F) f = stats m (sh c 3)⌝ ∗ slotPts c 2 f) :=
  Entails.of_eq (got_dma m c 6 (by decide) (by decide))
theorem got7 (c : Dev nD) : got m c 7 ⊢ iprop(pts c cc0_scratch0 fullShare (xA m c) ∗ pts c main_arg0 fullShare (xA m c)) :=
  Entails.of_eq (got_dma m c 7 (by decide) (by decide))
theorem got8 (c : Dev nD) : got m c 8 ⊢ iprop(pts c cc0_scratch1 fullShare (tA m c) ∗ pts c main_arg1 fullShare (tA m c)) :=
  Entails.of_eq (got_dma m c 8 (by decide) (by decide))
theorem got9 (c : Dev nD) : got m c 9 ⊢ iprop(pts c cc0_scratch2 fullShare (wsA m c) ∗ pts c main_arg2 fullShare (wsA m c)) :=
  Entails.of_eq (got_dma m c 9 (by decide) (by decide))
theorem got10 (c : Dev nD) : got m c 10 ⊢ iprop(pts c cc0_scratch3 fullShare (whA m c) ∗ pts c main_arg3 fullShare (whA m c)) :=
  Entails.of_eq (got_dma m c 10 (by decide) (by decide))

omit [FloatOps F] in
theorem ld_row (j : Fin 3) (s : Fin 2) (f : Vec F S3x2x4x256 .f32) (v : Vec F S2x4x256 .f32) (h : (slotM j).view.read (Elt F) f = v) :
    recvM.view.readAt (Elt F) (rr j s).toLoadRect f = rowR s v := (read_rr j s f).trans (congrArg _ h)

set_option maxHeartbeats 4000000 in
set_option maxRecDepth 20000 in
/-- The body, run from `bodyPre` to `bodyPost` one rule per effect, in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole main_arg0) (Memref.isWhole_whole _) (Memref.whole main_arg1) (Memref.isWhole_whole _)
            (Memref.whole main_arg2) (Memref.isWhole_whole _) (Memref.whole main_arg3) (Memref.isWhole_whole _)
            (Memref.whole cc0_stg0_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost positions payToks creds args scratch
  rw [bigSep_fin12]
  iintro ⟨⟨⟨⟨#HR, ⟨Ha0, Ha1, Ha2, Ha3, Ha4, Ha5, Ha6, Ha7, Ha8, Ha9, Ha10, Ha11⟩, Hb1, Hb2, Hb3, Hr3, Hr2, Hr1, Hs1, Hs2, Hs3, Ht7, Ht8, Ht9, Ht10⟩,
    ⟨Hc0, Hc4, Hc5, Hc6⟩, #HL, ⟨Hx, Ht, Hws, Hwh⟩, ⟨⟨%fx, Hvx⟩, ⟨%ft, Hvt⟩, ⟨%fs, Hvs⟩, ⟨%fh, Hvh⟩, ⟨%fst, Hst⟩, Hrecv⟩⟩,
    HO, ⟨%d0, %g0, %hg0, Hout⟩⟩, Hk⟩
  unfold Dat.owesAt Pipeline.owesWithin
  icases HO with ⟨%W, %hW, HO⟩
  rw [show (dats m ρ 0 c).owed t₀.castSucc = O₀ c from rfl]
  simp only [dev1_eq c, dev2_eq c, dev3_eq c]
  -- the copies of the arguments
  iapply (wp_fetch m K c 7 (by decide) (by decide) (src := Memref.whole main_arg0) (dst := Memref.whole cc0_scratch0) rfl (View.set_whole _) (View.set_whole _)
      (xA m c) fx (n := NX) rfl rfl (sep_mono_left (Entails.of_eq (fetched c fx (xA m c))))) $$ [Hx Hvx Ht7]
  · isplitr; · iexact HR
    isplitl [Hx]; · iexact Hx
    isplitl [Hvx]; · iexact Hvx
    iexact Ht7
  iintro Hc7
  iapply (wp_fetch m K c 8 (by decide) (by decide) (src := Memref.whole main_arg1) (dst := Memref.whole cc0_scratch1) rfl (View.set_whole _) (View.set_whole _)
      (tA m c) ft (n := NT) rfl rfl (sep_mono_left (Entails.of_eq (fetched c ft (tA m c))))) $$ [Ht Hvt Ht8]
  · isplitr; · iexact HR
    isplitl [Ht]; · iexact Ht
    isplitl [Hvt]; · iexact Hvt
    iexact Ht8
  iintro Hc8
  iapply (wp_fetch m K c 9 (by decide) (by decide) (src := Memref.whole main_arg2) (dst := Memref.whole cc0_scratch2) rfl (View.set_whole _) (View.set_whole _)
      (wsA m c) fs (n := NW) rfl rfl (sep_mono_left (Entails.of_eq (fetched c fs (wsA m c))))) $$ [Hws Hvs Ht9]
  · isplitr; · iexact HR
    isplitl [Hws]; · iexact Hws
    isplitl [Hvs]; · iexact Hvs
    iexact Ht9
  iintro Hc9
  iapply (wp_fetch m K c 10 (by decide) (by decide) (src := Memref.whole main_arg3) (dst := Memref.whole cc0_scratch3) rfl (View.set_whole _) (View.set_whole _)
      (whA m c) fh (n := NW) rfl rfl (sep_mono_left (Entails.of_eq (fetched c fh (whA m c))))) $$ [Hwh Hvh Ht10]
  · isplitr; · iexact HR
    isplitl [Hwh]; · iexact Hwh
    isplitl [Hvh]; · iexact Hvh
    iexact Ht10
  iintro Hc10
  -- the signals, each with the slot its device will write
  ihave Hsl := (recv_split (F := F) c) $$ Hrecv
  icases Hsl with ⟨⟨Hl0, Hl1, Hl2⟩, Hspare⟩
  unfold O₀
  iapply (Rounds.wp_signal 𝒱₀ EX (Rd m) (c : Thread nD τ) none (dst := (sh c 1 : Thread nD τ)) (κ := K (sh c 1, 0))
      (d := 0) (by rw [duties_eq]; exact Finset.mem_univ _) ((amount_eq m (sh c 1) (.reg barS) 0).trans (by decide)) () (O₃ c + tallyAt (kcell (sh c 3, 0)) () 1 + tallyAt (kcell (sh c 2, 0)) () 1) rfl)
    $$ [HO Hb1 Hl0]
  · isplitr; · iapply (records_inv m K (sh c 1, 0)); iexact HR
    isplitl [HO]; · iexact HO
    isplitl [Hb1]; · iexact Hb1
    isplitl [Hl0]
    · iapply (signal0 m c)
      isplitl [Hl0]; · iexact Hl0
      iapply (records_reached m K (c, 4)); iexact HR
    iapply (records_reached m K (sh c 1, 0)); iexact HR
  iintro HO
  iapply (Rounds.wp_signal 𝒱₀ EX (Rd m) (c : Thread nD τ) none (dst := (sh c 2 : Thread nD τ)) (κ := K (sh c 2, 0))
      (d := 1) (by rw [duties_eq]; exact Finset.mem_univ _) ((amount_eq m (sh c 2) (.reg barS) 1).trans (by decide)) () (O₃ c + tallyAt (kcell (sh c 3, 0)) () 1) rfl)
    $$ [HO Hb2 Hl1]
  · isplitr; · iapply (records_inv m K (sh c 2, 0)); iexact HR
    isplitl [HO]; · iexact HO
    isplitl [Hb2]; · iexact Hb2
    isplitl [Hl1]
    · iapply (signal1 m c)
      isplitl [Hl1]; · iexact Hl1
      iapply (records_reached m K (c, 5)); iexact HR
    iapply (records_reached m K (sh c 2, 0)); iexact HR
  iintro HO
  iapply (Rounds.wp_signal 𝒱₀ EX (Rd m) (c : Thread nD τ) none (dst := (sh c 3 : Thread nD τ)) (κ := K (sh c 3, 0))
      (d := 2) (by rw [duties_eq]; exact Finset.mem_univ _) ((amount_eq m (sh c 3) (.reg barS) 2).trans (by decide)) () (O₃ c) rfl)
    $$ [HO Hb3 Hl2]
  · isplitr; · iapply (records_inv m K (sh c 3, 0)); iexact HR
    isplitl [HO]; · iexact HO
    isplitl [Hb3]; · iexact Hb3
    isplitl [Hl2]
    · iapply (signal2 m c)
      isplitl [Hl2]; · iexact Hl2
      iapply (records_reached m K (c, 6)); iexact HR
    iapply (records_reached m K (sh c 3, 0)); iexact HR
  iintro HO
  ihave HO := (show (owes (c : Thread nD τ) (O₃ c) W : sProp 𝕄) ⊢ ow c (O₃ c) by iintro H; iexists W; iexact H) $$ HO
  -- the block of x
  iapply (wp_wait_cell m K c 7 (n := NX) rfl (wpE_waitDma2_eq 𝒱₀ (c : Thread nD τ) none Set.univ) rfl (expects_dma 7 (by decide) (by decide)) (O := O₃ c) (mayWait_O₃ c _ (by decide))) $$ [Hc7 HO Ha7]
  · isplitr; · iexact HR
    isplitr; · iexact HL
    isplitl [Hc7]; · iexact Hc7
    isplitl [HO]; · iexact HO
    iexact Ha7
  iintro ⟨HO, Hz7, Hp⟩
  ihave Hp := (got7 m c) $$ Hp
  icases Hp with ⟨Hvx, Hx⟩
  iapply (wp_load 𝒱₀ (c : Thread nD τ) none Set.univ (m := Memref.whole cc0_scratch0) (Finset.subset_univ _)) $$ Hvx; iintro Hvx
  rw [rd0]
  -- its rows of sums
  iapply (wp_load 𝒱₀ (c : Thread nD τ) none Set.univ (m := statM) (Finset.subset_univ _)) $$ Hst; iintro Hst
  iapply (wp_store 𝒱₀ (c : Thread nD τ) none Set.univ (m := statM) (r := sr0) (Mk := Finset.univ) (Finset.subset_univ _)) $$ Hst; iintro Hst
  iapply (wp_load 𝒱₀ (c : Thread nD τ) none Set.univ (m := statM) (Finset.subset_univ _)) $$ Hst; iintro Hst
  iapply (wp_store 𝒱₀ (c : Thread nD τ) none Set.univ (m := statM) (r := sr1) (Mk := Finset.univ) (Finset.subset_univ _)) $$ Hst; iintro Hst
  ihave Hst := (stored m c fst) $$ Hst
  ihave Hst := (stat_split c (stats m c)) $$ Hst
  icases Hst with ⟨Hq0, Hq1, Hq2, Hqk⟩
  -- its barrier, with the other devices' slots
  iapply (wp_wait_cell m K c 0 (n := 3) rfl (wpE_semWait_eq 𝒱₀ (c : Thread nD τ) none Set.univ) rfl expects_bar (O := O₃ c) (mayWait_O₃ c _ (by decide))) $$ [Hc0 HO Ha0]
  · isplitr; · iexact HR
    isplitr; · iexact HL
    isplitl [Hc0]; · iexact Hc0
    isplitl [HO]; · iexact HO
    iexact Ha0
  iintro ⟨HO, Hz0, Hp⟩
  ihave Hp := (got0 m c) $$ Hp
  icases Hp with ⟨⟨⟨%n0, Hn0⟩, -⟩, ⟨⟨%n1, Hn1⟩, -⟩, ⟨⟨%n2, Hn2⟩, -⟩⟩
  -- the transfers
  iapply (wp_send_rows m K c (sh c 1) _ (dev4_eq c) 0 2 1 6 (by decide) (by decide) (by decide) (by decide) rfl rfl rfl
      (by show slotAt (sh c 1) 2 (stats m (sh (sh c 1) 3)) = _; rw [sh_13]) rfl rfl rfl (tallyAt (kcell (sh c 3, 4)) () N + tallyAt (kcell (sh c 2, 5)) () N) rfl n2) $$ [Hq0 Hn2 HO Hs1 Hr1]
  · isplitr; · iexact HR
    isplitl [Hq0]; · iexact Hq0
    isplitl [Hn2]; · iexact Hn2
    isplitl [HO]; · iexact HO
    isplitl [Hs1]; · iexact Hs1
    iexact Hr1
  iintro ⟨Hc1, HO⟩
  iapply (wp_send_rows m K c (sh c 2) _ (dev5_eq c) 1 1 2 5 (by decide) (by decide) (by decide) (by decide) rfl rfl rfl
      (by show slotAt (sh c 2) 1 (stats m (sh (sh c 2) 2)) = _; rw [sh_22]) rfl rfl rfl (tallyAt (kcell (sh c 3, 4)) () N) rfl n1) $$ [Hq1 Hn1 HO Hs2 Hr2]
  · isplitr; · iexact HR
    isplitl [Hq1]; · iexact Hq1
    isplitl [Hn1]; · iexact Hn1
    isplitl [HO]; · iexact HO
    isplitl [Hs2]; · iexact Hs2
    iexact Hr2
  iintro ⟨Hc2, HO⟩
  iapply (wp_send_rows m K c (sh c 3) _ (dev6_eq c) 2 0 3 4 (by decide) (by decide) (by decide) (by decide) rfl rfl rfl
      (by show slotAt (sh c 3) 0 (stats m (sh (sh c 3) 1)) = _; rw [sh_31]) rfl rfl rfl 0 (by rw [zero_add]) n0) $$ [Hq2 Hn0 HO Hs3 Hr3]
  · isplitr; · iexact HR
    isplitl [Hq2]; · iexact Hq2
    isplitl [Hn0]; · iexact Hn0
    isplitl [HO]; · iexact HO
    isplitl [Hs3]; · iexact Hs3
    iexact Hr3
  iintro ⟨Hc3, HO⟩
  -- the other arguments
  iapply (wp_wait_cell m K c 8 (n := NT) rfl (wpE_waitDma2_eq 𝒱₀ (c : Thread nD τ) none Set.univ) rfl (expects_dma 8 (by decide) (by decide)) (O := 0) (mayWait_0 c _)) $$ [Hc8 HO Ha8]
  · isplitr; · iexact HR
    isplitr; · iexact HL
    isplitl [Hc8]; · iexact Hc8
    isplitl [HO]; · iexact HO
    iexact Ha8
  iintro ⟨HO, Hz8, Hp⟩
  ihave Hp := (got8 m c) $$ Hp
  icases Hp with ⟨Hvt, Ht⟩
  iapply (wp_wait_cell m K c 9 (n := NW) rfl (wpE_waitDma2_eq 𝒱₀ (c : Thread nD τ) none Set.univ) rfl (expects_dma 9 (by decide) (by decide)) (O := 0) (mayWait_0 c _)) $$ [Hc9 HO Ha9]
  · isplitr; · iexact HR
    isplitr; · iexact HL
    isplitl [Hc9]; · iexact Hc9
    isplitl [HO]; · iexact HO
    iexact Ha9
  iintro ⟨HO, Hz9, Hp⟩
  ihave Hp := (got9 m c) $$ Hp
  icases Hp with ⟨Hvs, Hws⟩
  iapply (wp_wait_cell m K c 10 (n := NW) rfl (wpE_waitDma2_eq 𝒱₀ (c : Thread nD τ) none Set.univ (src := Memref.whole main_arg3) (dst := Memref.whole cc0_scratch3)) rfl (expects_dma 10 (by decide) (by decide)) (O := 0) (mayWait_0 c _)) $$ [Hc10 HO Ha10]
  · isplitr; · iexact HR
    isplitr; · iexact HL
    isplitl [Hc10]; · iexact Hc10
    isplitl [HO]; · iexact HO
    iexact Ha10
  iintro ⟨HO, Hz10, Hp⟩
  ihave Hp := (got10 m c) $$ Hp
  icases Hp with ⟨Hvh, Hwh⟩
  iapply (wp_load 𝒱₀ (c : Thread nD τ) none Set.univ (m := Memref.whole cc0_scratch1) (Finset.subset_univ _)) $$ Hvt; iintro Hvt
  rw [rd1]
  iapply (wp_load 𝒱₀ (c : Thread nD τ) none Set.univ (m := Memref.whole cc0_scratch2) (Finset.subset_univ _)) $$ Hvs; iintro Hvs
  rw [rd2]
  iapply (wp_load 𝒱₀ (c : Thread nD τ) none Set.univ (m := Memref.whole cc0_scratch3) (Finset.subset_univ _)) $$ Hvh; iintro Hvh
  rw [rd3]
  -- the other devices' rows of sums
  iapply (wp_wait_cell m K c 6 (n := N) rfl (wpE_waitDma2_eq 𝒱₀ (c : Thread nD τ) none Set.univ (src := statM) (dst := slotM 2)) rfl (expects_dma 6 (by decide) (by decide)) (O := 0) (mayWait_0 c _)) $$ [Hc6 HO Ha6]
  · isplitr; · iexact HR
    isplitr; · iexact HL
    isplitl [Hc6]; · iexact Hc6
    isplitl [HO]; · iexact HO
    iexact Ha6
  iintro ⟨HO, Hz6, Hp⟩
  ihave Hp := (got6 m c) $$ Hp
  icases Hp with ⟨%f2, %hf2, Hl2⟩
  iapply (wp_wait_cell m K c 5 (n := N) rfl (wpE_waitDma2_eq 𝒱₀ (c : Thread nD τ) none Set.univ (src := statM) (dst := slotM 1)) rfl (expects_dma 5 (by decide) (by decide)) (O := 0) (mayWait_0 c _)) $$ [Hc5 HO Ha5]
  · isplitr; · iexact HR
    isplitr; · iexact HL
    isplitl [Hc5]; · iexact Hc5
    isplitl [HO]; · iexact HO
    iexact Ha5
  iintro ⟨HO, Hz5, Hp⟩
  ihave Hp := (got5 m c) $$ Hp
  icases Hp with ⟨%f1, %hf1, Hl1⟩
  iapply (wp_wait_cell m K c 4 (n := N) rfl (wpE_waitDma2_eq 𝒱₀ (c : Thread nD τ) none Set.univ (src := statM) (dst := slotM 0)) rfl (expects_dma 4 (by decide) (by decide)) (O := 0) (mayWait_0 c _)) $$ [Hc4 HO Ha4]
  · isplitr; · iexact HR
    isplitr; · iexact HL
    isplitl [Hc4]; · iexact Hc4
    isplitl [HO]; · iexact HO
    iexact Ha4
  iintro ⟨HO, Hz4, Hp⟩
  ihave Hp := (got4 m c) $$ Hp
  icases Hp with ⟨%f0, %hf0, Hl0⟩
  unfold slotPts
  iapply (wp_load 𝒱₀ (c : Thread nD τ) none Set.univ (m := statM) (Finset.subset_univ _)) $$ Hqk; iintro Hqk
  rw [read_sr0]
  iapply (wp_load 𝒱₀ (c : Thread nD τ) none Set.univ (m := recvM) (rr_sub 0 0)) $$ Hl0; iintro Hl0
  rw [ld_row 0 0 f0 _ hf0]
  iapply (wp_load 𝒱₀ (c : Thread nD τ) none Set.univ (m := recvM) (rr_sub 1 0)) $$ Hl1; iintro Hl1
  rw [ld_row 1 0 f1 _ hf1]
  iapply (wp_load 𝒱₀ (c : Thread nD τ) none Set.univ (m := recvM) (rr_sub 2 0)) $$ Hl2; iintro Hl2
  rw [ld_row 2 0 f2 _ hf2]
  iapply (wp_load 𝒱₀ (c : Thread nD τ) none Set.univ (m := statM) (Finset.subset_univ _)) $$ Hqk; iintro Hqk
  rw [read_sr1]
  iapply (wp_load 𝒱₀ (c : Thread nD τ) none Set.univ (m := recvM) (rr_sub 0 1)) $$ Hl0; iintro Hl0
  rw [ld_row 0 1 f0 _ hf0]
  iapply (wp_load 𝒱₀ (c : Thread nD τ) none Set.univ (m := recvM) (rr_sub 1 1)) $$ Hl1; iintro Hl1
  rw [ld_row 1 1 f1 _ hf1]
  iapply (wp_load 𝒱₀ (c : Thread nD τ) none Set.univ (m := recvM) (rr_sub 2 1)) $$ Hl2; iintro Hl2
  rw [ld_row 2 1 f2 _ hf2]
  -- the result
  iapply (wp_load 𝒱₀ (c : Thread nD τ) none Set.univ (m := Memref.whole cc0_stg0_0) (Finset.subset_univ _)) $$ Hout; iintro Hout
  iapply (wp_store 𝒱₀ (c : Thread nD τ) none Set.univ (m := Memref.whole cc0_stg0_0) (r := Rect.unit ![0, 0, 0] S4x256x128.size inb_S4x256x128_S4x256x128_0_0_0) (Mk := Finset.univ) (Finset.subset_univ _)) $$ Hout; iintro Hout
  rw [wr_out]
  -- the send buffer back
  iapply (wp_wait_cell m K c 1 (n := N) rfl (wpE_waitDma2_eq 𝒱₀ (c : Thread nD τ) none Set.univ) rfl (expects_dma 1 (by decide) (by decide)) (O := 0) (mayWait_0 c _)) $$ [Hc1 HO Ha1]
  · isplitr; · iexact HR
    isplitr; · iexact HL
    isplitl [Hc1]; · iexact Hc1
    isplitl [HO]; · iexact HO
    iexact Ha1
  iintro ⟨HO, Hz1, Hp⟩
  ihave Hq0 := (got1 m c) $$ Hp
  iapply (wp_wait_cell m K c 2 (n := N) rfl (wpE_waitDma2_eq 𝒱₀ (c : Thread nD τ) none Set.univ) rfl (expects_dma 2 (by decide) (by decide)) (O := 0) (mayWait_0 c _)) $$ [Hc2 HO Ha2]
  · isplitr; · iexact HR
    isplitr; · iexact HL
    isplitl [Hc2]; · iexact Hc2
    isplitl [HO]; · iexact HO
    iexact Ha2
  iintro ⟨HO, Hz2, Hp⟩
  ihave Hq1 := (got2 m c) $$ Hp
  iapply (wp_wait_cell m K c 3 (n := N) rfl (wpE_waitDma2_eq 𝒱₀ (c : Thread nD τ) none Set.univ) rfl (expects_dma 3 (by decide) (by decide)) (O := 0) (mayWait_0 c _)) $$ [Hc3 HO Ha3]
  · isplitr; · iexact HR
    isplitr; · iexact HL
    isplitl [Hc3]; · iexact Hc3
    isplitl [HO]; · iexact HO
    iexact Ha3
  iintro ⟨HO, Hz3, Hp⟩
  ihave Hq2 := (got3 m c) $$ Hp
  -- the cell without duties closes too
  imod (Rounds.cell_close EX (Rd m) (Set.mem_univ (K (c, 11))) (fun h => h) (R := 0) (duties_none m c)) $$ [Ha11] with Hz11
  · isplitr; · iapply (records_inv m K (c, 11)); iexact HR
    iexact Ha11
  rw [wp_ret]; imodintro
  iapply Hk
  unfold bodyPost Φ₁ Dat.owesAt Pipeline.owesWithin scratch counters args
  rw [show (dats m ρ 0 c).owed t₀.succ = 0 from rfl, bigSep_fin12]
  icases HO with ⟨%W', HO⟩
  isplitl [Hvx Hvt Hvs Hvh Hq0 Hq1 Hq2 Hqk Hl0 Hl1 Hl2 Hspare Hz0 Hz1 Hz2 Hz3 Hz4 Hz5 Hz6 Hz7 Hz8 Hz9 Hz10 Hz11 Hx Ht Hws Hwh]
  · isplitl [Hvx Hvt Hvs Hvh Hq0 Hq1 Hq2 Hqk Hl0 Hl1 Hl2 Hspare]
    · isplitl [Hvx]; · iexists _; iexact Hvx
      isplitl [Hvt]; · iexists _; iexact Hvt
      isplitl [Hvs]; · iexists _; iexact Hvs
      isplitl [Hvh]; · iexists _; iexact Hvh
      isplitl [Hq0 Hq1 Hq2 Hqk]
      · iexists _
        iapply (stat_join c (stats m c))
        isplitl [Hq0]; · iexact Hq0
        isplitl [Hq1]; · iexact Hq1
        isplitl [Hq2]; · iexact Hq2
        iexact Hqk
      iapply (recv_join (F := F) c)
      unfold slotPts
      isplitl [Hl0 Hl1 Hl2]
      · isplitl [Hl0]; · iexists _; iexact Hl0
        isplitl [Hl1]; · iexists _; iexact Hl1
        iexists _; iexact Hl2
      iexact Hspare
    isplitr [Hx Ht Hws Hwh]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      iexact Hz11
    isplitl [Hx]; · iexact Hx
    isplitl [Ht]; · iexact Ht
    isplitl [Hws]; · iexact Hws
    iexact Hwh
  isplitl [HO]
  · iexists W'
    isplitr; · ipureintro; exact fun _ _ => Or.inl trivial
    iexact HO
  iexists _; isplitr; · (ipureintro; rfl)
  iexact Hout

end Body

end Cert.Norm

end
-- ==== Proof.Launch.lean ====
/-
The launch: the ghost state of the exchange made at launch and dealt to the devices, the credit of what they owe each
other, and the run of @main on the four devices — every result block at the body's value, every argument unchanged, every
counter at zero — at any float values.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Tactic

@[expose] public section

noncomputable section

namespace Cert.Norm

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- What the pipeline hands the body on device `c`. -/
def bodyStart (c : Dev nD) : sProp 𝕄 :=
  iprop(Φ₀ m c ∗ (dats m ρ 0 c).owesAt () t₀.castSucc ∗ (∃ d, stg c cc0_stg0_0 ((dats m ρ 0 c).before (0 : Fin 1) t₀ d)))

theorem body_obligation (c : Dev nD) : BodyObligation (dats (F := F) m ρ 0 c) (defs₀ (F := F)) 𝒱₀ () Set.univ := fun t => by
  rw [fin_N t, bigSep_W0, bigSep_W0]
  simp only [owns_whole_eq]
  show bodyStart m ρ c ⊢ wp frame (wpE (defs₀ (F := F)) 𝒱₀ (c : Thread nD τ) none) Set.univ
    (cc0_body (Memref.whole main_arg0) (Memref.isWhole_whole _) (Memref.whole main_arg1) (Memref.isWhole_whole _)
            (Memref.whole main_arg2) (Memref.isWhole_whole _) (Memref.whole main_arg3) (Memref.isWhole_whole _)
            (Memref.whole cc0_stg0_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8) (fun _ => bodyPost m ρ c)
  unfold bodyStart Φ₀ start
  iintro ⟨⟨⟨⟨%K, Hg⟩, Hc, Hl, Ha⟩, Hs⟩, Ho, Hout⟩
  iapply (sound_body m ρ K c fun _ => bodyPost m ρ c)
  unfold bodyPre
  isplitr []
  · isplitl [Hg Hc Hl Ha Hs]
    · isplitl [Hg]; · iexact Hg
      isplitl [Hc]; · iexact Hc
      isplitl [Hl]; · iexact Hl
      isplitl [Ha]; · iexact Ha
      iexact Hs
    isplitl [Ho]; · iexact Ho
    iexact Hout
  · iintro H; iexact H

/-! ## The cells and the duty tokens -/

/-- The kernel's own semaphores: its DMA semaphores but the staging one. -/
abbrev osem (k : Fin 11) : SemLoc sig := csem k.succ

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 12 → GSem nD τ sig) := fun a b h =>
  Prod.ext (congrArg (fun g : GSem nD τ sig => g.1.1) h) (csem_injective (congrArg Prod.snd h))

def allCells : Finset (GSem nD τ sig) := Finset.univ.map ⟨kcell, kcell_injective⟩

/-- A device's thirteen duties: three at its barrier, one at each receive, send and local cell. -/
abbrev tokCell : Fin 13 → Fin 12 := ![0, 0, 0, 4, 5, 6, 1, 2, 3, 7, 8, 9, 10]
abbrev tokDuty : Fin 13 → Fin 3 := ![0, 1, 2, 0, 0, 0, 0, 0, 0, 0, 0, 0, 0]
abbrev tokOf (cj : Dev nD × Fin 13) : GSem nD τ sig × ℕ × Fin 3 := (kcell (cj.1, tokCell cj.2), 0, tokDuty cj.2)

theorem tok_pairs : ∀ j j' : Fin 13, tokCell j = tokCell j' → tokDuty j = tokDuty j' → j = j' := by decide
theorem tokOf_injective : Function.Injective (tokOf : Dev nD × Fin 13 → GSem nD τ sig × ℕ × Fin 3) := fun a b h => by
  have h1 := kcell_injective (congrArg Prod.fst h)
  exact Prod.ext (congrArg (fun x : Dev nD × Fin 12 => x.1) h1) (tok_pairs _ _ (congrArg Prod.snd h1) (congrArg (fun x : GSem nD τ sig × ℕ × Fin 3 => x.2.2) h))

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def ownToks (c : Dev nD) : sProp 𝕄 :=
  iprop(dutyTok EX (kcell (c, 0)) 0 0 ∗ dutyTok EX (kcell (c, 0)) 0 1 ∗ dutyTok EX (kcell (c, 0)) 0 2
    ∗ dutyTok EX (kcell (c, 4)) 0 0 ∗ dutyTok EX (kcell (c, 5)) 0 0 ∗ dutyTok EX (kcell (c, 6)) 0 0
    ∗ dutyTok EX (kcell (c, 1)) 0 0 ∗ dutyTok EX (kcell (c, 2)) 0 0 ∗ dutyTok EX (kcell (c, 3)) 0 0
    ∗ dutyTok EX (kcell (c, 7)) 0 0 ∗ dutyTok EX (kcell (c, 8)) 0 0 ∗ dutyTok EX (kcell (c, 9)) 0 0 ∗ dutyTok EX (kcell (c, 10)) 0 0)

/-- What the launch deals device `c`: its own cells at round 0, and their tokens. -/
def G (c : Dev nD) : sProp 𝕄 :=
  iprop((bigSep Finset.univ fun k : Fin 12 => roundState EX (Rd m) (kcell (c, k)) 0)
    ∗ (bigSep Finset.univ fun k : Fin 12 => iprop(atPos EX (kcell (c, k)) 0 ∅ 0 ∗ reached EX (kcell (c, k)) 0)) ∗ ownToks c)

/-- What device `c` starts with: the ghost state, at some names of the cells' invariants. -/
def G' (c : Dev nD) : sProp 𝕄 := iprop(∃ K, ghost m K c)

omit [FloatOps F] in
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

theorem fund_cells : BI.own (EX (initOf allCells allToks)) ⊢ (|==> bigSep Finset.univ (G m) : sProp 𝕄) := by
  have hX (Φ : GSem nD τ sig → sProp 𝕄) :
      bigSep allCells Φ = bigSep Finset.univ fun c : Dev nD => bigSep Finset.univ fun k : Fin 12 => Φ (kcell (c, k)) := by
    unfold allCells; rw [bigSep_map, bigSep_univ_prod]; rfl
  have hT : bigSep allToks (fun x => (dutyTok EX x.1 x.2.1 x.2.2 : sProp 𝕄)) = bigSep Finset.univ fun c : Dev nD => ownToks c := by
    unfold allToks; rw [bigSep_map, bigSep_univ_prod]
    exact bigSep_congr fun c _ => by unfold ownToks; rw [bigSep_fin13]; rfl
  iintro HX
  imod (Rounds.fund EX (Rd m) allCells allToks) $$ HX with ⟨Hst, Hr, Hat, Htok⟩
  imodintro
  ihave Hst := (Entails.of_eq (hX fun g => roundState EX (Rd m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0
      ∗ semVal (kcell (c, 11)) 0) := by
  rw [Pipeline.ownSems0_eq_of_list c osem [0, 1, 2, 3, 4, 5, 6, 7, 8, 9, 10] (by decide) (by decide)]; rfl
omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
/-- A device's own semaphores and its barrier are its twelve cells' counters. -/
theorem counters_eq (c : Dev nD) :
    (iprop(unscopedSems0 c ∗ Pipeline.ownSems0 (Ix := Unit) (Name := ℕ) (U := UU) (Lvl := ℕ) (Val := Elt F) (τ := τ) osem c) : sProp 𝕄)
      = counters c := by
  unfold counters
  rw [ownSems0_eq, unscopedSems0_eq, bigSep_fin12]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (Rd m) κ (kcell (c, k))))
          ∗ (bigSep Finset.univ fun k => iprop(atPos EX (kcell (c, k)) 0 ∅ 0 ∗ reached EX (kcell (c, k)) 0)) ∗ ownToks c) := by
  unfold G
  iintro ⟨Hos, Hus, Hst, Hat, Htok⟩
  ihave Hv := (Entails.of_eq (counters_eq (F := F) c)) $$ [Hos Hus]
  · isplitl [Hus] <;> iassumption
  unfold counters
  imod (show iprop((bigSep Finset.univ fun k : Fin 12 => semVal (kcell (c, k)) 0) ∗ bigSep Finset.univ fun k : Fin 12 => roundState EX (Rd m) (kcell (c, k)) 0)
      ⊢ (|={Set.univ}=> bigSep Finset.univ fun k => iprop(∃ κ : ℕ, cellInv EX (Rd m) κ (kcell (c, k))) : sProp 𝕄) from by
        rw [← bigSep_sep']
        exact (bigSep_mono fun k _ => (Rounds.body_intro EX (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to the devices that pay them. -/
theorem toks_dealt : (bigSep Finset.univ fun c : Dev nD => (ownToks c : sProp 𝕄)) ⊢ bigSep Finset.univ fun c : Dev nD => payToks c := by
  unfold ownToks payToks
  simp only [bigSep_sep']
  rw [bigSep_univ_equiv rot1 (fun c : Dev nD => (dutyTok EX (kcell (c, 0)) 0 0 : sProp 𝕄)),
    bigSep_univ_equiv rot2 (fun c : Dev nD => (dutyTok EX (kcell (c, 0)) 0 1 : sProp 𝕄)),
    bigSep_univ_equiv rot3 (fun c : Dev nD => (dutyTok EX (kcell (c, 0)) 0 2 : sProp 𝕄)),
    bigSep_univ_equiv rot3 (fun c : Dev nD => (dutyTok EX (kcell (c, 4)) 0 0 : sProp 𝕄)),
    bigSep_univ_equiv rot2 (fun c : Dev nD => (dutyTok EX (kcell (c, 5)) 0 0 : sProp 𝕄)),
    bigSep_univ_equiv rot1 (fun c : Dev nD => (dutyTok EX (kcell (c, 6)) 0 0 : sProp 𝕄))]
  exact Entails.of_eq rfl

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 12 → ℕ) (c : Dev nD) : iprop(records m K ∗ (positions c ∗ payToks c)) ⊢ G' m c := by
  unfold G' ghost
  iintro ⟨#HR, Hp, Ht⟩
  iexists K
  isplitr; · iexact HR
  isplitl [Hp] <;> iassumption

theorem regroup :
    (bigSep Finset.univ fun c : Dev nD => iprop((bigSep Finset.univ fun k => iprop(∃ κ : ℕ, cellInv EX (Rd m) κ (kcell (c, k))))
          ∗ (bigSep Finset.univ fun k => iprop(atPos EX (kcell (c, k)) 0 ∅ 0 ∗ reached EX (kcell (c, k)) 0)) ∗ ownToks c) : sProp 𝕄)
      ⊢ bigSep Finset.univ (G' m) := by
  rw [bigSep_sep', bigSep_sep', ← bigSep_univ_prod (fun ck : Dev nD × Fin 12 => iprop(∃ κ : ℕ, cellInv EX (Rd m) κ (kcell ck))),
    bigSep_congr (s := Finset.univ) (fun (c : Dev nD) _ => bigSep_sep' Finset.univ (fun k : Fin 12 => (atPos EX (kcell (c, k)) 0 ∅ 0 : sProp 𝕄)) (fun k => reached EX (kcell (c, k)) 0)),
    bigSep_sep', ← bigSep_univ_prod (fun ck : Dev nD × Fin 12 => (reached EX (kcell ck) 0 : sProp 𝕄))]
  iintro ⟨HI, ⟨Hat, #HR⟩, Htok⟩
  ihave HK := (BI.bigSep_exists_pi Finset.univ (fun (ck : Dev nD × Fin 12) (κ : ℕ) => (cellInv EX (Rd m) κ (kcell ck) : sProp 𝕄))) $$ HI
  icases HK with ⟨%K, #HI⟩
  ihave Htk := (toks_dealt (F := F)) $$ Htok
  iapply (bigSep_with (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The cells' invariants allocated and the tokens dealt, all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what the devices owe each other -/

theorem owed_at (d : Dev nD) (ck : Dev nD × Fin 12) : O₀ d (kcell ck) ()
    = (if ck = (sh d 3, 4) then N else 0) + (if ck = (sh d 2, 5) then N else 0) + (if ck = (sh d 1, 6) then N else 0)
      + (if ck = (sh d 3, 0) then 1 else 0) + (if ck = (sh d 2, 0) then 1 else 0) + (if ck = (sh d 1, 0) then 1 else 0) := by
  unfold O₀ O₃
  simp only [Pi.add_apply, Finsupp.add_apply, tallyAt_apply, kcell_injective.eq_iff, and_true]

theorem owed_bar (c : Dev nD) : ∑ d : Dev nD, O₀ d (kcell (c, 0)) () = 3 := by
  simp only [owed_at]
  generalize N = n
  revert c
  intro c; fin_cases c <;> rfl

theorem owed_recv (c : Dev nD) (k : Fin 12) (hk : k = 4 ∨ k = 5 ∨ k = 6) : ∑ d : Dev nD, O₀ d (kcell (c, k)) () = N := by
  simp only [owed_at]
  generalize N = n
  rcases hk with rfl | rfl | rfl <;> fin_cases c <;> simp [Fin.sum_univ_four, sh, nD]

theorem launch_at (ck : Dev nD × Fin 12) (n : ℕ) (h : ∑ d : Dev nD, O₀ d (kcell ck) () = n) :
    tallyOn (kcell ck) (launchCredit (Pipeline.owing O₀) 0 (kcell ck)) = (tallyAt (kcell ck) () n : CellTallies nD τ sig Unit) := by
  unfold tallyAt; refine congrArg _ (Finsupp.ext fun u => ?_); cases u
  rw [Pipeline.launchCredit_owing, Finsupp.single_eq_same, h]

omit [FloatOps F] in
theorem creds_intro (c : Dev nD) : (Pipeline.launchCred O₀ c : sProp 𝕄) ⊢ creds c := by
  unfold Pipeline.launchCred creds
  have hsub := Idealize.SL.BI.bigSep_subset (Finset.subset_univ [csem 0, csem 4, csem 5, csem 6].toFinset)
    (Φ := fun sm => (cred (tallyOn ((c : Thread nD τ), sm) (launchCredit (Pipeline.owing O₀) 0 ((c : Thread nD τ), sm))) : sProp 𝕄))
  refine BIBase.Entails.trans hsub ?_
  rw [bigSep_eq_bigSepL_of_eq [csem 0, csem 4, csem 5, csem 6] rfl (by decide)]
  rw [← launch_at (c, 0) 3 (owed_bar c), ← launch_at (c, 4) N (owed_recv c 4 (by decide)), ← launch_at (c, 5) N (owed_recv c 5 (by decide)),
    ← launch_at (c, 6) N (owed_recv c 6 (by decide))]
  exact Entails.of_eq rfl

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds_intro (F := F) c) $$ Hcr
  imodintro
  unfold start G' args
  isplitl
  · isplitl [HG]; · iexact HG
    isplitl [Hc]; · iexact Hc
    isplitl [Hlev]; · iexact Hlev
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device keeps after the kernel: its barrier's counter and its arguments. -/
def kept (c : Dev nD) : sProp 𝕄 := iprop(unscopedSems0 c ∗ args m c)

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq]
  unfold Φ₁ kept scratch
  rw [← counters_eq]
  iintro ⟨Hr, ⟨Hu, Ho⟩, Ha⟩
  isplitl [Hu Ha]
  · isplitl [Hu] <;> iassumption
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_O₀ c _ (by fin_cases w <;> fin_cases s <;> decide)
    · exact mayWait_0 c _

/-! ## The run -/

/-- The arguments of device `c` are what they were. -/
def argsKept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

theorem out_eq (c : Dev nD) : (dats m ρ 0 c).arrAt (0 : Fin 1) cfg0.N = outAt m c := by
  have hr : (win0_0.blk (0 : Fin 1)).view.read (Elt F) ((dats m ρ 0 c).arrAt (0 : Fin 1) cfg0.N) = outAt m c := by
    rw [show cfg0.N = ((0 : Fin 1) : Fin cfg0.N).val + 1 from rfl, (dats m ρ 0 c).arrAt_succ (0 : Fin 1) (0 : Fin 1)]
    rw [show (cfg0.win (0 : Fin 1)).flush (0 : Fin 1) = true from by decide, if_pos rfl]
    exact View.read_write_univ _ _
  have hz : (fun a => (win0_0.index (0 : Fin 1)) a * main_v1.ty.shape.size a) = fun _ => 0 :=
    funext fun a => by fin_cases a <;> decide
  have hw := fun f => Memref.read_access_unit_zero (Elt F) main_v1 hz (fun a => by fin_cases a <;> decide) f
  rw [hw] at hr
  exact hr

/-- At any float values, from any memory with zero counters: every weakly fair execution of @main on the four devices
    terminates; every final state has each device's result block at the body's value, its arguments unchanged, and every
    semaphore counter at zero. -/
theorem run_main : θ_run defs (onTc (τ := τ) (main (F := F))) (s₀ m ρ)
    (fun r => (∀ c : Dev nD, r.2.mem ((c : Thread nD τ).loc main_v1) = outAt m c ∧ argsKept m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ argsKept m c s)
    (hY := fun c s' => by
      unfold kept args
      iintro ⟨⟨Hu, Hx, Ht, Hs, Hh⟩, -, HSI⟩
      icombine HSI Hx gives %hx
      icombine HSI Ht gives %ht
      icombine HSI Hs gives %hs
      icombine HSI Hh gives %hh
      imod (Pipeline.unscopedSems0_read (X := unscopedSems0 c) (c := c) fupd_intro s') $$ [Hu HSI] with ⟨%hu, HSI⟩
      · isplitl [Hu] <;> iassumption
      imodintro
      isplitr
      · ipureintro
        exact ⟨hu, Buf.eq_of_forall_mem_univ hx, Buf.eq_of_forall_mem_univ ht, Buf.eq_of_forall_mem_univ hs, Buf.eq_of_forall_mem_univ hh⟩
      iexact HSI)
    (hQ := fun s h hs => ⟨fun c => ⟨((h c).1 (0 : Fin 1)).trans (out_eq m ρ c), (h c).2.2.2⟩, sem_eq_zero hs fun c => (h c).2.2.1⟩)

end Cert.Norm

end
-- ==== Proof.Moments.lean ====
/-
The arithmetic the two programs' results are compared by: four blocks' sums make a row's sum whichever block comes first,
and for a real row "the mean of the squares less the square of the mean" is "the mean of the squared distances from the
mean", so that multiplying by the reciprocal root of the one is dividing by the root of the other.
-/
module

public import Idealize.ShloMosaic.PureOps.Ideal.Laws
public import Idealize.ShloMosaic.Lib.IdealHost

@[expose] public section

noncomputable section

namespace Cert.Norm

open Idealize.ShloMosaic

/-! ## The printed constants -/

theorem bits_512 : Ideal.ofBits .f32 0x44000000#32 = ((512 : ℝ) : EReal) := by
  simp [Ideal.ofBits, Ideal.ieee, -EReal.coe_mul]; norm_num

/-- The small number added under the root. -/
def eps : ℝ := 10995116 / 2 ^ 40

theorem eps_pos : 0 < eps := by unfold eps; norm_num

theorem bits_eps : Ideal.ofBits .f32 0x3727C5AC#32 = ((eps : ℝ) : EReal) := by
  simp [Ideal.ofBits, Ideal.ieee, eps, -EReal.coe_mul]; norm_num

theorem bits_inf : Ideal.ofBits .f32 0x7F800000#32 = ⊤ := by
  simp [Ideal.ofBits, Ideal.ieee]

/-! ## A row's sum from its four blocks -/

/-- Element `l` of block `d` of a row of 512. -/
def at4 (d : Fin 4) (l : Fin 128) : Fin 512 := ⟨d.val * 128 + l.val, by omega⟩

theorem sum_at4 {M : Type*} [AddCommMonoid M] (f : Fin 512 → M) : ∑ d : Fin 4, ∑ l : Fin 128, f (at4 d l) = ∑ k, f k := by
  rw [← Fintype.sum_prod_type' (f := fun d l => f (at4 d l))]
  refine Fintype.sum_equiv (finProdFinEquiv (m := 4) (n := 128)) _ _ fun p => congrArg f (Fin.ext ?_)
  simp [at4, finProdFinEquiv, Nat.mul_comm, Nat.add_comm]

/-- Four blocks' sums added from any block on, round the ring, make the row's sum. -/
theorem sum_ring {M : Type*} [AddCommMonoid M] (f : Fin 512 → M) (c c₁ c₂ c₃ : Fin 4) (h₁ : c₁.val = (c.val + 1) % 4)
    (h₂ : c₂.val = (c.val + 2) % 4) (h₃ : c₃.val = (c.val + 3) % 4) :
    ∑ l, f (at4 c l) + ∑ l, f (at4 c₁ l) + ∑ l, f (at4 c₂ l) + ∑ l, f (at4 c₃ l) = ∑ k, f k := by
  rw [← sum_at4 f, Fin.sum_univ_four]
  obtain rfl : c₁ = ⟨(c.val + 1) % 4, Nat.mod_lt _ (by decide)⟩ := Fin.ext h₁
  obtain rfl : c₂ = ⟨(c.val + 2) % 4, Nat.mod_lt _ (by decide)⟩ := Fin.ext h₂
  obtain rfl : c₃ = ⟨(c.val + 3) % 4, Nat.mod_lt _ (by decide)⟩ := Fin.ext h₃
  fin_cases c <;> simp <;> abel

/-! ## The two variances -/

/-- For real numbers the mean of the squares less the square of the mean is the mean of the squared distances. -/
theorem variance_real (r : Fin 512 → ℝ) :
    (∑ k, r k * r k) / 512 - (∑ k, r k) / 512 * ((∑ k, r k) / 512)
      = (∑ k, (r k - (∑ j, r j) / 512) * (r k - (∑ j, r j) / 512)) / 512 := by
  set μ := (∑ j, r j) / 512 with hμ
  have hs : ∑ k, r k = 512 * μ := by rw [hμ]; ring
  have : ∀ k, (r k - μ) * (r k - μ) = r k * r k - 2 * μ * r k + μ * μ := fun k => by ring
  simp only [this, Finset.sum_add_distrib, Finset.sum_sub_distrib, ← Finset.mul_sum, hs, Finset.sum_const, Finset.card_univ,
    Fintype.card_fin, nsmul_eq_mul]
  push_cast
  ring

theorem variance_nonneg (r : Fin 512 → ℝ) (μ : ℝ) : 0 ≤ (∑ k, (r k - μ) * (r k - μ)) / 512 :=
  div_nonneg (Finset.sum_nonneg fun k _ => mul_self_nonneg _) (by norm_num)

theorem coe_sum {n : ℕ} (r : Fin n → ℝ) : ∑ k, ((r k : ℝ) : EReal) = ((∑ k, r k : ℝ) : EReal) :=
  (map_sum (⟨⟨Real.toEReal, EReal.coe_zero⟩, EReal.coe_add⟩ : ℝ →+ EReal) r Finset.univ).symm

theorem div_512 (a : ℝ) : Ideal.div ((a : ℝ) : EReal) ((512 : ℝ) : EReal) = ((a / 512 : ℝ) : EReal) := by
  rw [Ideal.div_coe (by norm_num), ← EReal.coe_mul, mul_one_div]

/-- The normalized element: by the reciprocal root of the moments' variance as by the root of the distances'. -/
theorem normalized (X : Fin 512 → EReal) (r : Fin 512 → ℝ) (hX : ∀ k, X k = r k) (k : Fin 512) :
    (X k - Ideal.div (∑ j, X j) ((512 : ℝ) : EReal))
        * Ideal.rsqrt (Ideal.div (∑ j, X j * X j) ((512 : ℝ) : EReal)
            - Ideal.div (∑ j, X j) ((512 : ℝ) : EReal) * Ideal.div (∑ j, X j) ((512 : ℝ) : EReal) + ((eps : ℝ) : EReal))
      = Ideal.div (X k - Ideal.div (∑ j, X j) ((512 : ℝ) : EReal))
          (Ideal.sqrt (Ideal.div (∑ i, (X i - Ideal.div (∑ j, X j) ((512 : ℝ) : EReal)) * (X i - Ideal.div (∑ j, X j) ((512 : ℝ) : EReal)))
            ((512 : ℝ) : EReal) + ((eps : ℝ) : EReal))) := by
  obtain rfl : X = fun k => ((r k : ℝ) : EReal) := funext hX
  simp only [← EReal.coe_mul, coe_sum, div_512, ← EReal.coe_sub, ← EReal.coe_add]
  rw [variance_real]
  have hp : 0 < (∑ i, (r i - (∑ j, r j) / 512) * (r i - (∑ j, r j) / 512)) / 512 + eps :=
    add_pos_of_nonneg_of_pos (variance_nonneg r _) eps_pos
  rw [Ideal.rsqrt_coe, Ideal.sqrt_coe, if_neg hp.not_gt, if_neg hp.ne', if_neg hp.not_gt,
    Ideal.div_coe (Real.sqrt_pos.mpr hp).ne', one_div]

end Cert.Norm

end
-- ==== Proof.RefValue.lean ====
/-
The reference's result, index by index, on extended reals: an element less its row's mean, over the root of the row's
variance and the small number, times one plus the scale's product, plus the shift's product.
-/
module

public import proofs.«01_k».proof.Proof.Gen.ReferenceIdeal.Run
public import proofs.«01_k».proof.Proof.Moments
public import Idealize.ShloMosaic.Lib.Pointwise

@[expose] public section

noncomputable section

namespace Cert.Norm.Ref

open Cert.ReferenceIdeal Cert.ReferenceIdeal.Gen
open Idealize.ShloMosaic Idealize.ShloMosaic.TcCoe Idealize.SL.Sem

set_option maxRecDepth 16384

/-- Every row's sum over a zero start, as one column. -/
def rowSum (x : FVec Ideal S4x256x512 .f32) : FVec Ideal S4x256x1 .f32 :=
  broadcastInDim S4x256x1 ![0, 1] bcast_S4x256_S4x256x1_0_1
    (Host.reduceAdd x (constant S_ .f32 0x00000000#32) reducesTo_S4x256x512_S4x256_d2 h_S_)

/-- The array less its rows' means. -/
def centred (x : FVec Ideal S4x256x512 .f32) : FVec Ideal S4x256x512 .f32 :=
  subf x (broadcastInDim S4x256x512 ![0, 1, 2] bcast_S4x256x1_S4x256x512_0_1_2
    (Host.divf (rowSum x) (broadcastInDim S4x256x1 ![] bcast_S_S4x256x1 (constant S_ .f32 0x44000000#32))))

/-- The number the squared distances are divided by: the row's length less no correction. -/
def count : FVec Ideal S_ .f32 := subf (constant S_ .f32 0x44000000#32) (sitofp .f32 (constantI S_ 32 0#32))

/-- Every row's variance, chosen where the count is positive. -/
def variance (x : FVec Ideal S4x256x512 .f32) : FVec Ideal S4x256x1 .f32 :=
  select (broadcastInDim S4x256x1 ![] bcast_S_S4x256x1 (cmpf .ogt count (constant S_ .f32 0x00000000#32)))
    (Host.divf (rowSum (mulf (centred x) (centred x))) (broadcastInDim S4x256x1 ![] bcast_S_S4x256x1 count))
    (broadcastInDim S4x256x1 ![] bcast_S_S4x256x1 (id (constant S_ .f32 0x7FC00000#32)))

/-- A modulation's product as one row a batch. -/
def modulation (t : FVec Ideal S4x128 .f32) (w : FVec Ideal S128x512 .f32) : FVec Ideal S4x1x512 .f32 :=
  broadcastInDim S4x1x512 ![0, 2] bcast_S4x512_S4x1x512_0_2 (Host.dotGeneral dot_S4x128_S128x512_S4x512_1_0_0_1_n_n none t w)

/-- The reference's result of its four arguments. -/
def out (x : FVec Ideal S4x256x512 .f32) (t : FVec Ideal S4x128 .f32) (ws wh : FVec Ideal S128x512 .f32) :
    FVec Ideal S4x256x512 .bf16 :=
  truncf .bf16
    (addf
      (mulf
        (Host.divf (centred x)
          (broadcastInDim S4x256x512 ![0, 1, 2] bcast_S4x256x1_S4x256x512_0_1_2
            (Host.sqrt (addf (variance x) (broadcastInDim S4x256x1 ![] bcast_S_S4x256x1 (constant S_ .f32 0x3727C5AC#32))))))
        (broadcastInDim S4x256x512 ![0, 1, 2] bcast_S4x1x512_S4x256x512_0_1_2
          (addf (broadcastInDim S4x1x512 ![] bcast_S_S4x1x512 (constant S_ .f32 0x3F800000#32)) (modulation t ws))))
      (broadcastInDim S4x256x512 ![0, 1, 2] bcast_S4x1x512_S4x256x512_0_1_2 (modulation t wh)))
    bitsLt_bf16_f32

/-- The reference's run: its result at `out` of the arguments, the arguments as they were. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

theorem centred_apply (x : FVec Ideal S4x256x512 .f32) (a : Fin 4) (b : Fin 256) (k : Fin 512) :
    centred x (ix3 a b k)
      = x (ix3 a b k) - Ideal.div (∑ j : Fin 512, x (ix3 a b j)) ((512 : ℝ) : EReal) := by
  pointwise [centred, rowSum, bits_512]

theorem variance_apply (x : FVec Ideal S4x256x512 .f32) (a : Fin 4) (b : Fin 256) :
    variance x (ix3 a b 0)
      = Ideal.div (∑ j : Fin 512, centred x (ix3 a b j) * centred x (ix3 a b j)) ((512 : ℝ) : EReal) := by
  have h0 : FloatOps.sitofp (F := Ideal) .f32 (0#32) = (0 : EReal) := by
    show (((0#32 : BitVec 32).toInt : ℝ) : EReal) = 0
    simp
  have h512 : (0 : EReal) < ((512 : ℝ) : EReal) := by exact_mod_cast (by norm_num : (0 : ℝ) < 512)
  pointwise [variance, rowSum, count, bits_512]
  rw [h0, sub_zero, if_pos h512]

theorem out_apply (x : FVec Ideal S4x256x512 .f32) (t : FVec Ideal S4x128 .f32) (ws wh : FVec Ideal S128x512 .f32)
    (a : Fin 4) (b : Fin 256) (k : Fin 512) :
    out x t ws wh (ix3 a b k)
      = Ideal.div (centred x (ix3 a b k)) (Ideal.sqrt (variance x (ix3 a b 0) + ((eps : ℝ) : EReal)))
          * (1 + ∑ j : Fin 128, t (ix2 a j) * ws (ix2 j k)) + ∑ j : Fin 128, t (ix2 a j) * wh (ix2 j k) := by
  pointwise [out, modulation, bits_eps]

end Cert.Norm.Ref

end
-- ==== Proof.Value.lean ====
/-
The result block of a device, index by index, on extended reals, and the two programs compared: where every device's
blocks are its parts of the reference's arrays and x is finite, a device's result is its part of the reference's.
-/
module

public import proofs.«01_k».proof.Proof.Launch
public import proofs.«01_k».proof.Proof.Moments
public import proofs.«01_k».proof.Proof.RefValue
public import Idealize.ShloMosaic.Lib.Pointwise
public import Idealize.ShloMosaic.Lib.LayoutAt

@[expose] public section

noncomputable section

namespace Cert.Norm

open Cert.KernelIdeal Cert.KernelIdeal.Gen
open Idealize.ShloMosaic Idealize.ShloMosaic.TcCoe

set_option maxRecDepth 16384

variable (m : (ℓ : Loc nD τ sig) → Buf (Elt Ideal) ℓ)

/-! ## The kernel's values at an index -/

/-- A row of a device's first moments, its own. -/
theorem sums_own (c : Dev nD) (a : Fin 4) (b : Fin 256) :
    rowS 0 (stats m c) (ix3 0 a b) = ∑ l : Fin 128, xA m c (ix3 a b l) := by
  show k0_pay1 (xA m c) (ix3 0 a b) = _
  pointwise [k0_pay1]

/-- A row of a device's second moments, its own. -/
theorem squares_own (c : Dev nD) (a : Fin 4) (b : Fin 256) :
    rowS 1 (stats m c) (ix3 0 a b) = ∑ l : Fin 128, xA m c (ix3 a b l) * xA m c (ix3 a b l) := by
  show k0_pay3 (k0_pay2 (xA m c)) (ix3 0 a b) = _
  pointwise [k0_pay3, k0_pay2]

/-- A row of another device's first moments, as received. -/
theorem sums_received (c : Dev nD) (a : Fin 4) (b : Fin 256) :
    rowR 0 (stats m c) (ix4 0 0 a b) = ∑ l : Fin 128, xA m c (ix3 a b l) := sums_own m c a b

/-- A row of another device's second moments, as received. -/
theorem squares_received (c : Dev nD) (a : Fin 4) (b : Fin 256) :
    rowR 1 (stats m c) (ix4 0 0 a b) = ∑ l : Fin 128, xA m c (ix3 a b l) * xA m c (ix3 a b l) := squares_own m c a b

theorem gain_apply (t : Vec Ideal S4x128 .f32) (w : Vec Ideal S128x128 .f32) (a : Fin 4) (l : Fin 128) :
    k0_pay4 t w (ix3 a 0 l) = 1 + ∑ j : Fin 128, t (ix2 a j) * w (ix2 j l) := by
  pointwise [k0_pay4]

theorem shift_apply (t : Vec Ideal S4x128 .f32) (w : Vec Ideal S128x128 .f32) (a : Fin 4) (l : Fin 128) :
    k0_pay5 t w (ix3 a 0 l) = ∑ j : Fin 128, t (ix2 a j) * w (ix2 j l) := by
  pointwise [k0_pay5]

theorem total_apply (p : Vec Ideal S1x4x256 .f32) (q r s : Vec Ideal S1x1x4x256 .f32) (a : Fin 4) (b : Fin 256) :
    k0_pay6 p q r s (ix2 a b) = p (ix3 0 a b) + q (ix4 0 0 a b) + r (ix4 0 0 a b) + s (ix4 0 0 a b) := by
  pointwise [k0_pay6]

theorem totalSq_apply (p : Vec Ideal S1x4x256 .f32) (q r s : Vec Ideal S1x1x4x256 .f32) (a : Fin 4) (b : Fin 256) :
    k0_pay7 p q r s (ix2 a b) = p (ix3 0 a b) + q (ix4 0 0 a b) + r (ix4 0 0 a b) + s (ix4 0 0 a b) := by
  pointwise [k0_pay7]

theorem final_apply (x : Vec Ideal S4x256x128 .f32) (g s : FVec Ideal S4x1x128 .bf16) (u v : FVec Ideal S4x256 .f32)
    (a : Fin 4) (b : Fin 256) (l : Fin 128) :
    k0_pay8 x g s u v (Scalar.ofBits .f32 0x44000000#32) (ix3 a b l)
      = (x (ix3 a b l) - Ideal.div (u (ix2 a b)) ((512 : ℝ) : EReal))
          * Ideal.rsqrt (Ideal.div (v (ix2 a b)) ((512 : ℝ) : EReal)
              - Ideal.div (u (ix2 a b)) ((512 : ℝ) : EReal) * Ideal.div (u (ix2 a b)) ((512 : ℝ) : EReal) + ((eps : ℝ) : EReal))
          * g (ix3 a 0 l) + s (ix3 a 0 l) := by
  pointwise [k0_pay8, bits_512, bits_eps]

/-! ## Blocks of the whole arrays -/

/-- The element of the whole row that element `l` of device `c`'s block is. -/
theorem block_x (c : Fin 4) (X : (⟨3, ![4, 256, 512]⟩ : Shape).Idx → EReal) (a : Fin 4) (b : Fin 256) (l : Fin 128) :
    Layout.block ⟨3, ![4, 256, 128]⟩ ⟨3, ![4, 256, 512]⟩ 2 4 c X (by decide) (ix3 a b l) = X (ix3 a b (at4 c l)) :=
  congrArg X (funext fun i => Fin.ext (by fin_cases i <;> rfl))

theorem block_w (c : Fin 4) (W : (⟨2, ![128, 512]⟩ : Shape).Idx → EReal) (j l : Fin 128) :
    Layout.block ⟨2, ![128, 128]⟩ ⟨2, ![128, 512]⟩ 1 4 c W (by decide) (ix2 j l) = W (ix2 j (at4 c l)) :=
  congrArg W (funext fun i => Fin.ext (by fin_cases i <;> rfl))

/-! ## The comparison -/

/-- Every device's result block is its part of the reference's result. -/
theorem outAt_eq (X : FVec Ideal ⟨3, ![4, 256, 512]⟩ .f32) (t : FVec Ideal ⟨2, ![4, 128]⟩ .f32)
    (ws wh : FVec Ideal ⟨2, ![128, 512]⟩ .f32) (hfin : ∀ j, ∃ r : ℝ, X j = (r : EReal))
    (hx : ∀ c : Fin 4, xA m c = Layout.block ⟨3, ![4, 256, 128]⟩ ⟨3, ![4, 256, 512]⟩ 2 4 c X)
    (ht : ∀ c : Fin 4, tA m c = t)
    (hws : ∀ c : Fin 4, wsA m c = Layout.block ⟨2, ![128, 128]⟩ ⟨2, ![128, 512]⟩ 1 4 c ws)
    (hwh : ∀ c : Fin 4, whA m c = Layout.block ⟨2, ![128, 128]⟩ ⟨2, ![128, 512]⟩ 1 4 c wh) (c : Fin 4) :
    outAt m c = Layout.block ⟨3, ![4, 256, 128]⟩ ⟨3, ![4, 256, 512]⟩ 2 4 c (Ref.out X t ws wh) := by
  funext i
  obtain ⟨a, b, l, rfl⟩ : ∃ (a : Fin 4) (b : Fin 256) (l : Fin 128), i = ix3 a b l := ⟨i 0, i 1, i 2, eq_ix3 i⟩
  choose r hr using hfin
  have hxi : ∀ (d : Fin 4) (l' : Fin 128), xA m d (ix3 a b l') = X (ix3 a b (at4 d l')) := fun d l' => by
    rw [hx d]; exact block_x d X a b l'
  have hg : k0_pay4 (tA m c) (wsA m c) (ix3 a 0 l) = 1 + ∑ j : Fin 128, t (ix2 a j) * ws (ix2 j (at4 c l)) := by
    rw [gain_apply, ht c, hws c]
    exact congrArg (1 + ·) (Finset.sum_congr rfl fun j _ => congrArg (t (ix2 a j) * ·) (block_w c ws j l))
  have hs : k0_pay5 (tA m c) (whA m c) (ix3 a 0 l) = ∑ j : Fin 128, t (ix2 a j) * wh (ix2 j (at4 c l)) := by
    rw [shift_apply, ht c, hwh c]
    exact Finset.sum_congr rfl fun j _ => congrArg (t (ix2 a j) * ·) (block_w c wh j l)
  refine Eq.trans ?_ (block_x c (Ref.out X t ws wh) a b l).symm
  rw [Ref.out_apply, Ref.variance_apply]
  unfold outAt
  rw [final_apply, hg, hs, total_apply, totalSq_apply]
  simp only [sums_own, sums_received, squares_own, squares_received, hxi, Ref.centred_apply]
  rw [sum_ring (fun k => X (ix3 a b k)) c (sh c 1) (sh c 2) (sh c 3) rfl rfl rfl,
    sum_ring (fun k => X (ix3 a b k) * X (ix3 a b k)) c (sh c 1) (sh c 2) (sh c 3) rfl rfl rfl,
    normalized (fun k => X (ix3 a b k)) (fun k => r (ix3 a b k)) (fun k => hr _) (at4 c l)]

end Cert.Norm

end
-- ==== Proof.lean ====
/-
The claims of this certificate, put together: the kernel's run at any float values (Proof/Launch.lean) read at words and at
extended reals, the reference's run, and the comparison of the two results (Proof/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent

@[expose] public section

noncomputable section

namespace Cert.Proof

open Idealize.ShloMosaic Idealize.ShloMosaic.TcCoe Idealize.SL.Sem

/-! ## The predicates' facts -/

theorem facts_block : Cert.Pre_x_finite_KernelIdeal.Facts := ⟨by decide⟩
theorem facts_whole : Cert.Pre_x_finite_ReferenceIdeal.Facts := ⟨by decide⟩

/-! ## Runs and quiescence -/

/-- At any float values: every argument is as it was and every counter is at zero. -/
theorem run_kept {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD, Cert.Norm.argsKept m c r.2) ∧ r.2.sem = fun _ => 0) :=
  (θ_run Cert.KernelIdeal.defs _ _).mono (fun _ h => ⟨fun c => (h.1 c).2, h.2⟩) (Cert.Norm.run_main m ρ)

/-- The two printed programs have one text: the body tables, and so the tables of @main, are the same. -/
theorem bodies_eq : Cert.Kernel.defs₀ (F := Bits) = Cert.KernelIdeal.defs₀ (F := Bits) := by
  unfold Cert.Kernel.defs₀ Cert.KernelIdeal.defs₀
  refine congrArg Defs.onTc (funext fun l => funext fun p => ?_)
  match l, p with
  | 0, (t, s) => rfl

theorem defs_eq : Cert.Kernel.defs (F := Bits) = Cert.KernelIdeal.defs (F := Bits) :=
  congrArg (Pipeline.defs (Cert.Kernel.pcfgs (F := Bits))) bodies_eq

theorem frame_kernel : Cert.quiescent_Kernel := fun m ρ _ => by
  rw [defs_eq]
  exact run_kept (F := Bits) m ρ

theorem frame_ideal : Cert.quiescent_KernelIdeal := fun m ρ _ => run_kept m ρ

theorem frame_ideal_finite : Cert.quiescent_KernelIdeal_pre_x_finite_KernelIdeal
    (hPre_x_finite_KernelIdeal := facts_block) := fun m ρ _ => run_kept m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.Norm.Ref.run_out m ρ)

theorem frame_reference_finite : Cert.quiescent_ReferenceIdeal_pre_x_finite_ReferenceIdeal
    (hPre_x_finite_ReferenceIdeal := facts_whole) := fun m ρ _ => frame_reference m ρ trivial

/-! ## The value -/

/-- What the precondition says of one element: it is a real number. -/
theorem real_of_finite (x : EReal) (h : Ideal.cmp .olt (max x (-x)) (Ideal.ofBits .f32 0x7F800000#32) = 1#1) :
    ∃ r : ℝ, x = (r : EReal) := by
  rw [Cert.Norm.bits_inf] at h
  induction x using EReal.rec with
  | bot => simp [Ideal.cmp] at h
  | coe r => exact ⟨r, rfl⟩
  | top => simp [Ideal.cmp] at h

/-- Where every device's block of x is finite the whole array is real. -/
theorem whole_real (m : (ℓ : Loc Cert.KernelIdeal.nD Cert.KernelIdeal.τ Cert.KernelIdeal.sig) → Buf (Elt Ideal) ℓ)
    (X : FVec Ideal ⟨3, ![4, 256, 512]⟩ .f32)
    (hpre : Cert.Pre_KernelIdeal_x_finite_KernelIdeal (hPre_x_finite_KernelIdeal := facts_block) m)
    (hx : ∀ c : Fin 4, Cert.Norm.xA m c = Layout.block ⟨3, ![4, 256, 128]⟩ ⟨3, ![4, 256, 512]⟩ 2 4 c X)
    (j : (⟨3, ![4, 256, 512]⟩ : Shape).Idx) : ∃ r : ℝ, X j = (r : EReal) := by
  obtain ⟨a, b, k, rfl⟩ : ∃ (a : Fin 4) (b : Fin 256) (k : Fin 512), j = ix3 a b k := ⟨j 0, j 1, j 2, eq_ix3 j⟩
  let c : Fin 4 := ⟨k.val / 128, by omega⟩
  let l : Fin 128 := ⟨k.val % 128, Nat.mod_lt _ (by decide)⟩
  have hk : Cert.Norm.at4 c l = k := Fin.ext (Nat.div_add_mod' k.val 128)
  have he : Cert.Norm.xA m c (ix3 a b l) = X (ix3 a b k) := by
    rw [hx c, ← hk]; exact Cert.Norm.block_x c X a b l
  rw [← he]
  exact real_of_finite _ (congrFun (hpre c) (ix3 a b l))

theorem algebraic : Cert.algebraic_KernelIdeal_ReferenceIdeal_pre_x_finite_KernelIdeal
    (hPre_x_finite_KernelIdeal := facts_block) := by
  intro m ρ m' ρ' hpre hblk
  refine ⟨_, ?_, (θ_run Cert.ReferenceIdeal.defs _ _).mono (fun _ h => h 0) (Cert.Norm.Ref.run_out m' ρ')⟩
  refine (θ_run Cert.KernelIdeal.defs _ _).mono (fun _ h c => ⟨(h.1 c).1.trans ?_, (h.1 c).2⟩)
    (Cert.Norm.run_main (F := Ideal) m ρ)
  exact Cert.Norm.outAt_eq m _ _ _ _ (whole_real m _ hpre fun c => (hblk c).1) (fun c => (hblk c).1)
    (fun c => (hblk c).2.1) (fun c => (hblk c).2.2.1) (fun c => (hblk c).2.2.2) c

/-- Every claim of the certificate. -/
theorem claim : Cert.Claim :=
  ⟨Cert.Kernel.Gen.facts, Cert.KernelIdeal.Gen.facts, Cert.ReferenceIdeal.Gen.facts, facts_block, facts_whole,
    frame_kernel, frame_ideal, frame_ideal_finite, frame_reference, frame_reference_finite, trivial, algebraic⟩

end Cert.Proof

end
